-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x32768 : Shape := ⟨2, ![4, 32768]⟩
abbrev S4x3x32x32768 : Shape := ⟨4, ![4, 3, 32, 32768]⟩
abbrev S384x32768 : Shape := ⟨2, ![384, 32768]⟩
abbrev S4x3x20480 : Shape := ⟨3, ![4, 3, 20480]⟩
abbrev S4x640 : Shape := ⟨2, ![4, 640]⟩
abbrev S2x32x640 : Shape := ⟨3, ![2, 32, 640]⟩
abbrev S4x3x640 : Shape := ⟨3, ![4, 3, 640]⟩
abbrev S_ : Shape := ⟨0, ![]⟩
abbrev S1x32x640 : Shape := ⟨3, ![1, 32, 640]⟩
abbrev S32x640 : Shape := ⟨2, ![32, 640]⟩
abbrev S1x16 : Shape := ⟨2, ![1, 16]⟩
abbrev S16 : Shape := ⟨1, ![16]⟩
abbrev S1x1x16 : Shape := ⟨3, ![1, 1, 16]⟩
abbrev S4x3x32768 : Shape := ⟨3, ![4, 3, 32768]⟩
abbrev S4x2048 : Shape := ⟨2, ![4, 2048]⟩
abbrev S1x3x32x2048 : Shape := ⟨4, ![1, 3, 32, 2048]⟩
abbrev S1x3x2048 : Shape := ⟨3, ![1, 3, 2048]⟩
abbrev S1x2048 : Shape := ⟨2, ![1, 2048]⟩
abbrev S1x1x32x2048 : Shape := ⟨4, ![1, 1, 32, 2048]⟩
abbrev S32x2048 : Shape := ⟨2, ![32, 2048]⟩
abbrev S2048 : Shape := ⟨1, ![2048]⟩
abbrev S1x1x2048 : Shape := ⟨3, ![1, 1, 2048]⟩

abbrev nBuf : Table → Nat
  | .hbm => 15
  | .local .tc .vmem => 8
  | .local .scVector .vmem => 4
  | _ => 0

abbrev bufTy : (tb : Table) → Fin (nBuf tb) → BufTy
  | .hbm, ⟨0, _⟩ => ⟨S4x32768, .f32⟩
  | .hbm, ⟨1, _⟩ => ⟨S4x3x32x32768, .f32⟩
  | .hbm, ⟨2, _⟩ => ⟨S384x32768, .f32⟩
  | .hbm, ⟨3, _⟩ => ⟨S4x3x20480, .f32⟩
  | .hbm, ⟨4, _⟩ => ⟨S4x3x20480, .i32⟩
  | .hbm, ⟨5, _⟩ => ⟨S4x3x32768, .f32⟩
  | .hbm, ⟨6, _⟩ => ⟨S4x3x32768, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S4x3x32768, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S4x3x32768, .i32⟩
  | .local .tc .vmem, ⟨0, _⟩ => ⟨S4x2048, .f32⟩
  | .local .tc .vmem, ⟨1, _⟩ => ⟨S4x2048, .f32⟩
  | .local .tc .vmem, ⟨2, _⟩ => ⟨S1x3x32x2048, .f32⟩
  | .local .tc .vmem, ⟨3, _⟩ => ⟨S1x3x32x2048, .f32⟩
  | .local .tc .vmem, ⟨4, _⟩ => ⟨S1x3x2048, .f32⟩
  | .local .tc .vmem, ⟨5, _⟩ => ⟨S1x3x2048, .f32⟩
  | .local .tc .vmem, ⟨6, _⟩ => ⟨S1x3x2048, .i32⟩
  | .local .tc .vmem, ⟨7, _⟩ => ⟨S1x3x2048, .i32⟩
  | .local .scVector .vmem, ⟨0, _⟩ => ⟨S4x640, .f32⟩
  | .local .scVector .vmem, ⟨1, _⟩ => ⟨S2x32x640, .f32⟩
  | .local .scVector .vmem, ⟨2, _⟩ => ⟨S4x3x640, .f32⟩
  | .local .scVector .vmem, ⟨3, _⟩ => ⟨S4x3x640, .i32⟩
  | _, _ => ⟨S4x32768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2_0 : Ref sig .tc := ⟨.hbm, 5, rfl⟩
abbrev main_v2_1 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_v3 : Ref sig .tc := ⟨.hbm, 10, rfl⟩
abbrev main_c_2 : Ref sig .tc := ⟨.hbm, 11, rfl⟩
abbrev main_c_3 : Ref sig .tc := ⟨.hbm, 12, rfl⟩
abbrev main_c_4 : Ref sig .tc := ⟨.hbm, 13, rfl⟩
abbrev main_v4 : Ref sig .tc := ⟨.hbm, 14, rfl⟩
abbrev main_arg0_scv : Ref sig .scVector := ⟨.hbm, 0, rfl⟩
abbrev main_v0_scv : Ref sig .scVector := ⟨.hbm, 2, rfl⟩
abbrev main_v1_0_scv : Ref sig .scVector := ⟨.hbm, 3, rfl⟩
abbrev main_v1_1_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_30_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![0, v2.toNat]
def k0_off2 (i : grid0.Coords) : Fin 2 → Nat :=
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![0, v2.toNat]
@[reducible] def k0_t1_loop : Scf.Loop 32 :=
  let c0_i32_6 : BitVec 32 := 0#32
  let c6_i32 : BitVec 32 := 6#32
  let v9 : BitVec 32 := Scalar.addi c0_i32_6 c6_i32
  let c1_i32 : BitVec 32 := 1#32
  ⟨c0_i32_6, v9, c1_i32⟩
def k0_off3 (i : grid0.Coords) (k0_t1 : Fin k0_t1_loop.trips) (c0_i32_33 : BitVec 32) : Fin 2 → Nat :=
  let c2_i32_32 : BitVec 32 := 2#32
  let c0_i32_31 : BitVec 32 := 0#32
  let c0_i32_6 : BitVec 32 := 0#32
  let c1_i32 : BitVec 32 := 1#32
  let arg14 : BitVec 32 := Scf.iv c0_i32_6 c1_i32 k0_t1
  let c1_i32_30 : BitVec 32 := 1#32
  let v24 : BitVec 32 := Scalar.muli arg14 c1_i32_30
  let v25 : BitVec 32 := Scalar.addi c0_i32_31 v24
  let v26 : BitVec 32 := Scalar.muli c2_i32_32 v25
  let v27 : BitVec 32 := Scalar.addi v26 c0_i32_33
  let c1_i32_34 : BitVec 32 := 1#32
  let v28 : BitVec 32 := Scalar.addi v27 c1_i32_34
  let c11_i32 : BitVec 32 := 11#32
  let v29 : BitVec 32 := Scalar.minsi v28 c11_i32
  let c32_i32 : BitVec 32 := 32#32
  let v30 : BitVec 32 := Scalar.muli v29 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![v30.toNat, v2.toNat]
def k0_off4 (i : grid0.Coords) (k0_t1 : Fin k0_t1_loop.trips) (c0_i32_33 : BitVec 32) : Fin 2 → Nat :=
  let c2_i32_32 : BitVec 32 := 2#32
  let c0_i32_31 : BitVec 32 := 0#32
  let c0_i32_6 : BitVec 32 := 0#32
  let c1_i32 : BitVec 32 := 1#32
  let arg14 : BitVec 32 := Scf.iv c0_i32_6 c1_i32 k0_t1
  let c1_i32_30 : BitVec 32 := 1#32
  let v24 : BitVec 32 := Scalar.muli arg14 c1_i32_30
  let v25 : BitVec 32 := Scalar.addi c0_i32_31 v24
  let v26 : BitVec 32 := Scalar.muli c2_i32_32 v25
  let v27 : BitVec 32 := Scalar.addi v26 c0_i32_33
  let c32_i32_40 : BitVec 32 := 32#32
  let v37 : BitVec 32 := Scalar.muli v27 c32_i32_40
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![v37.toNat, v2.toNat]
@[reducible] def k0_t2_loop : Scf.Loop 32 :=
  let c0_i32_53 : BitVec 32 := 0#32
  let c40_i32 : BitVec 32 := 40#32
  let v63 : BitVec 32 := Scalar.addi c0_i32_53 c40_i32
  let c1_i32_54 : BitVec 32 := 1#32
  ⟨c0_i32_53, v63, c1_i32_54⟩
def k0_off5 (k0_t1 : Fin k0_t1_loop.trips) (k0_t2 : Fin k0_t2_loop.trips) : Fin 2 → Nat :=
  let c2_i32_32 : BitVec 32 := 2#32
  let c0_i32_31 : BitVec 32 := 0#32
  let c0_i32_6 : BitVec 32 := 0#32
  let c1_i32 : BitVec 32 := 1#32
  let arg14 : BitVec 32 := Scf.iv c0_i32_6 c1_i32 k0_t1
  let c1_i32_30 : BitVec 32 := 1#32
  let v24 : BitVec 32 := Scalar.muli arg14 c1_i32_30
  let v25 : BitVec 32 := Scalar.addi c0_i32_31 v24
  let v26 : BitVec 32 := Scalar.muli c2_i32_32 v25
  let c0_i32_33 : BitVec 32 := 0#32
  let v27 : BitVec 32 := Scalar.addi v26 c0_i32_33
  let c0_i32_46 : BitVec 32 := 0#32
  let v45 : BitVec 1 := Scalar.cmpi .sgt v27 c0_i32_46
  let v46 : BitVec 32 := Scalar.extui v45
  let c0_i32_47 : BitVec 32 := 0#32
  let v47 : BitVec 1 := Scalar.cmpi .slt v27 c0_i32_47
  let v48 : BitVec 32 := Scalar.extui v47
  let v49 : BitVec 32 := Scalar.subi v46 v48
  let c3_i32 : BitVec 32 := 3#32
  let c0_i32_48 : BitVec 32 := 0#32
  let v50 : BitVec 1 := Scalar.cmpi .sgt c3_i32 c0_i32_48
  let v51 : BitVec 32 := Scalar.extui v50
  let c0_i32_49 : BitVec 32 := 0#32
  let v52 : BitVec 1 := Scalar.cmpi .slt c3_i32 c0_i32_49
  let v53 : BitVec 32 := Scalar.extui v52
  let v54 : BitVec 32 := Scalar.subi v51 v53
  let v55 : BitVec 1 := Scalar.cmpi .ne v49 v54
  let v56 : BitVec 32 := Scalar.remsi v27 c3_i32
  let c0_i32_50 : BitVec 32 := 0#32
  let v57 : BitVec 1 := Scalar.cmpi .ne v56 c0_i32_50
  let v58 : BitVec 1 := Scalar.andi v55 v57
  let v44 : BitVec 32 := Scalar.divsi v27 c3_i32
  let c1_i32_51 : BitVec 32 := 1#32
  let v59 : BitVec 32 := Scalar.subi v44 c1_i32_51
  let v60 : BitVec 32 := Scalar.select v58 v59 v44
  let v105 : Index := Scalar.indexCast v60
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v106 : Index := Scalar.indexCast v104
  ![v105.toNat, v106.toNat]
def k0_off6 (k0_t2 : Fin k0_t2_loop.trips) : Fin 3 → Nat :=
  let c0_i32_86 : BitVec 32 := 0#32
  let v109 : Index := Scalar.indexCast c0_i32_86
  let c0_i32_87 : BitVec 32 := 0#32
  let v110 : Index := Scalar.indexCast c0_i32_87
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v111 : Index := Scalar.indexCast v104
  ![0, 0, v111.toNat]
def k0_off7 (k0_t2 : Fin k0_t2_loop.trips) : Fin 3 → Nat :=
  let c0_i32_89 : BitVec 32 := 0#32
  let v116 : Index := Scalar.indexCast c0_i32_89
  let c1_i32_90 : BitVec 32 := 1#32
  let v117 : Index := Scalar.indexCast c1_i32_90
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v118 : Index := Scalar.indexCast v104
  ![0, 1, v118.toNat]
def k0_off8 (k0_t2 : Fin k0_t2_loop.trips) : Fin 3 → Nat :=
  let c0_i32_92 : BitVec 32 := 0#32
  let v126 : Index := Scalar.indexCast c0_i32_92
  let c2_i32_93 : BitVec 32 := 2#32
  let v127 : Index := Scalar.indexCast c2_i32_93
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v128 : Index := Scalar.indexCast v104
  ![0, 2, v128.toNat]
def k0_off9 (k0_t2 : Fin k0_t2_loop.trips) : Fin 3 → Nat :=
  let c0_i32_95 : BitVec 32 := 0#32
  let v136 : Index := Scalar.indexCast c0_i32_95
  let c3_i32_96 : BitVec 32 := 3#32
  let v137 : Index := Scalar.indexCast c3_i32_96
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v138 : Index := Scalar.indexCast v104
  ![0, 3, v138.toNat]
def k0_off10 (k0_t2 : Fin k0_t2_loop.trips) : Fin 3 → Nat :=
  let c0_i32_98 : BitVec 32 := 0#32
  let v146 : Index := Scalar.indexCast c0_i32_98
  let c4_i32 : BitVec 32 := 4#32
  let v147 : Index := Scalar.indexCast c4_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v148 : Index := Scalar.indexCast v104
  ![0, 4, v148.toNat]
def k0_off11 (k0_t2 : Fin k0_t2_loop.trips) : Fin 3 → Nat :=
  let c0_i32_100 : BitVec 32 := 0#32
  let v156 : Index := Scalar.indexCast c0_i32_100
  let c5_i32 : BitVec 32 := 5#32
  let v157 : Index := Scalar.indexCast c5_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v158 : Index := Scalar.indexCast v104
  ![0, 5, v158.toNat]
def k0_off12 (k0_t2 : Fin k0_t2_loop.trips) : Fin 3 → Nat :=
  let c0_i32_102 : BitVec 32 := 0#32
  let v166 : Index := Scalar.indexCast c0_i32_102
  let c6_i32_103 : BitVec 32 := 6#32
  let v167 : Index := Scalar.indexCast c6_i32_103
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v168 : Index := Scalar.indexCast v104
  ![0, 6, v168.toNat]
def k0_off13 (k0_t2 : Fin k0_t2_loop.trips) : Fin 3 → Nat :=
  let c0_i32_105 : BitVec 32 := 0#32
  let v176 : Index := Scalar.indexCast c0_i32_105
  let c7_i32 : BitVec 32 := 7#32
  let v177 : Index := Scalar.indexCast c7_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v178 : Index := Scalar.indexCast v104
  ![0, 7, v178.toNat]
def k0_off14 (k0_t2 : Fin k0_t2_loop.trips) : Fin 3 → Nat :=
  let c0_i32_107 : BitVec 32 := 0#32
  let v186 : Index := Scalar.indexCast c0_i32_107
  let c8_i32 : BitVec 32 := 8#32
  let v187 : Index := Scalar.indexCast c8_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v188 : Index := Scalar.indexCast v104
  ![0, 8, v188.toNat]
def k0_off15 (k0_t2 : Fin k0_t2_loop.trips) : Fin 3 → Nat :=
  let c0_i32_109 : BitVec 32 := 0#32
  let v196 : Index := Scalar.indexCast c0_i32_109
  let c9_i32 : BitVec 32 := 9#32
  let v197 : Index := Scalar.indexCast c9_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v198 : Index := Scalar.indexCast v104
  ![0, 9, v198.toNat]
def k0_off16 (k0_t2 : Fin k0_t2_loop.trips) : Fin 3 → Nat :=
  let c0_i32_111 : BitVec 32 := 0#32
  let v206 : Index := Scalar.indexCast c0_i32_111
  let c10_i32 : BitVec 32 := 10#32
  let v207 : Index := Scalar.indexCast c10_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v208 : Index := Scalar.indexCast v104
  ![0, 10, v208.toNat]
def k0_off17 (k0_t2 : Fin k0_t2_loop.trips) : Fin 3 → Nat :=
  let c0_i32_113 : BitVec 32 := 0#32
  let v216 : Index := Scalar.indexCast c0_i32_113
  let c11_i32_114 : BitVec 32 := 11#32
  let v217 : Index := Scalar.indexCast c11_i32_114
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v218 : Index := Scalar.indexCast v104
  ![0, 11, v218.toNat]
def k0_off18 (k0_t2 : Fin k0_t2_loop.trips) : Fin 3 → Nat :=
  let c0_i32_116 : BitVec 32 := 0#32
  let v226 : Index := Scalar.indexCast c0_i32_116
  let c12_i32 : BitVec 32 := 12#32
  let v227 : Index := Scalar.indexCast c12_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v228 : Index := Scalar.indexCast v104
  ![0, 12, v228.toNat]
def k0_off19 (k0_t2 : Fin k0_t2_loop.trips) : Fin 3 → Nat :=
  let c0_i32_118 : BitVec 32 := 0#32
  let v236 : Index := Scalar.indexCast c0_i32_118
  let c13_i32 : BitVec 32 := 13#32
  let v237 : Index := Scalar.indexCast c13_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v238 : Index := Scalar.indexCast v104
  ![0, 13, v238.toNat]
def k0_off20 (k0_t2 : Fin k0_t2_loop.trips) : Fin 3 → Nat :=
  let c0_i32_120 : BitVec 32 := 0#32
  let v246 : Index := Scalar.indexCast c0_i32_120
  let c14_i32 : BitVec 32 := 14#32
  let v247 : Index := Scalar.indexCast c14_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v248 : Index := Scalar.indexCast v104
  ![0, 14, v248.toNat]
def k0_off21 (k0_t2 : Fin k0_t2_loop.trips) : Fin 3 → Nat :=
  let c0_i32_122 : BitVec 32 := 0#32
  let v256 : Index := Scalar.indexCast c0_i32_122
  let c15_i32 : BitVec 32 := 15#32
  let v257 : Index := Scalar.indexCast c15_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v258 : Index := Scalar.indexCast v104
  ![0, 15, v258.toNat]
def k0_off22 (k0_t2 : Fin k0_t2_loop.trips) : Fin 3 → Nat :=
  let c0_i32_124 : BitVec 32 := 0#32
  let v266 : Index := Scalar.indexCast c0_i32_124
  let c16_i32_125 : BitVec 32 := 16#32
  let v267 : Index := Scalar.indexCast c16_i32_125
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v268 : Index := Scalar.indexCast v104
  ![0, 16, v268.toNat]
def k0_off23 (k0_t2 : Fin k0_t2_loop.trips) : Fin 3 → Nat :=
  let c0_i32_127 : BitVec 32 := 0#32
  let v276 : Index := Scalar.indexCast c0_i32_127
  let c17_i32 : BitVec 32 := 17#32
  let v277 : Index := Scalar.indexCast c17_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v278 : Index := Scalar.indexCast v104
  ![0, 17, v278.toNat]
def k0_off24 (k0_t2 : Fin k0_t2_loop.trips) : Fin 3 → Nat :=
  let c0_i32_129 : BitVec 32 := 0#32
  let v286 : Index := Scalar.indexCast c0_i32_129
  let c18_i32 : BitVec 32 := 18#32
  let v287 : Index := Scalar.indexCast c18_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v288 : Index := Scalar.indexCast v104
  ![0, 18, v288.toNat]
def k0_off25 (k0_t2 : Fin k0_t2_loop.trips) : Fin 3 → Nat :=
  let c0_i32_131 : BitVec 32 := 0#32
  let v296 : Index := Scalar.indexCast c0_i32_131
  let c19_i32 : BitVec 32 := 19#32
  let v297 : Index := Scalar.indexCast c19_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v298 : Index := Scalar.indexCast v104
  ![0, 19, v298.toNat]
def k0_off26 (k0_t2 : Fin k0_t2_loop.trips) : Fin 3 → Nat :=
  let c0_i32_133 : BitVec 32 := 0#32
  let v306 : Index := Scalar.indexCast c0_i32_133
  let c20_i32 : BitVec 32 := 20#32
  let v307 : Index := Scalar.indexCast c20_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v308 : Index := Scalar.indexCast v104
  ![0, 20, v308.toNat]
def k0_off27 (k0_t2 : Fin k0_t2_loop.trips) : Fin 3 → Nat :=
  let c0_i32_135 : BitVec 32 := 0#32
  let v316 : Index := Scalar.indexCast c0_i32_135
  let c21_i32 : BitVec 32 := 21#32
  let v317 : Index := Scalar.indexCast c21_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v318 : Index := Scalar.indexCast v104
  ![0, 21, v318.toNat]
def k0_off28 (k0_t2 : Fin k0_t2_loop.trips) : Fin 3 → Nat :=
  let c0_i32_137 : BitVec 32 := 0#32
  let v326 : Index := Scalar.indexCast c0_i32_137
  let c22_i32 : BitVec 32 := 22#32
  let v327 : Index := Scalar.indexCast c22_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v328 : Index := Scalar.indexCast v104
  ![0, 22, v328.toNat]
def k0_off29 (k0_t2 : Fin k0_t2_loop.trips) : Fin 3 → Nat :=
  let c0_i32_139 : BitVec 32 := 0#32
  let v336 : Index := Scalar.indexCast c0_i32_139
  let c23_i32 : BitVec 32 := 23#32
  let v337 : Index := Scalar.indexCast c23_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v338 : Index := Scalar.indexCast v104
  ![0, 23, v338.toNat]
def k0_off30 (k0_t2 : Fin k0_t2_loop.trips) : Fin 3 → Nat :=
  let c0_i32_141 : BitVec 32 := 0#32
  let v346 : Index := Scalar.indexCast c0_i32_141
  let c24_i32 : BitVec 32 := 24#32
  let v347 : Index := Scalar.indexCast c24_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v348 : Index := Scalar.indexCast v104
  ![0, 24, v348.toNat]
def k0_off31 (k0_t2 : Fin k0_t2_loop.trips) : Fin 3 → Nat :=
  let c0_i32_143 : BitVec 32 := 0#32
  let v356 : Index := Scalar.indexCast c0_i32_143
  let c25_i32 : BitVec 32 := 25#32
  let v357 : Index := Scalar.indexCast c25_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v358 : Index := Scalar.indexCast v104
  ![0, 25, v358.toNat]
def k0_off32 (k0_t2 : Fin k0_t2_loop.trips) : Fin 3 → Nat :=
  let c0_i32_145 : BitVec 32 := 0#32
  let v366 : Index := Scalar.indexCast c0_i32_145
  let c26_i32 : BitVec 32 := 26#32
  let v367 : Index := Scalar.indexCast c26_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v368 : Index := Scalar.indexCast v104
  ![0, 26, v368.toNat]
def k0_off33 (k0_t2 : Fin k0_t2_loop.trips) : Fin 3 → Nat :=
  let c0_i32_147 : BitVec 32 := 0#32
  let v376 : Index := Scalar.indexCast c0_i32_147
  let c27_i32 : BitVec 32 := 27#32
  let v377 : Index := Scalar.indexCast c27_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v378 : Index := Scalar.indexCast v104
  ![0, 27, v378.toNat]
def k0_off34 (k0_t2 : Fin k0_t2_loop.trips) : Fin 3 → Nat :=
  let c0_i32_149 : BitVec 32 := 0#32
  let v386 : Index := Scalar.indexCast c0_i32_149
  let c28_i32 : BitVec 32 := 28#32
  let v387 : Index := Scalar.indexCast c28_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v388 : Index := Scalar.indexCast v104
  ![0, 28, v388.toNat]
def k0_off35 (k0_t2 : Fin k0_t2_loop.trips) : Fin 3 → Nat :=
  let c0_i32_151 : BitVec 32 := 0#32
  let v396 : Index := Scalar.indexCast c0_i32_151
  let c29_i32 : BitVec 32 := 29#32
  let v397 : Index := Scalar.indexCast c29_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v398 : Index := Scalar.indexCast v104
  ![0, 29, v398.toNat]
def k0_off36 (k0_t2 : Fin k0_t2_loop.trips) : Fin 3 → Nat :=
  let c0_i32_153 : BitVec 32 := 0#32
  let v406 : Index := Scalar.indexCast c0_i32_153
  let c30_i32 : BitVec 32 := 30#32
  let v407 : Index := Scalar.indexCast c30_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v408 : Index := Scalar.indexCast v104
  ![0, 30, v408.toNat]
def k0_off37 (k0_t2 : Fin k0_t2_loop.trips) : Fin 3 → Nat :=
  let c0_i32_155 : BitVec 32 := 0#32
  let v416 : Index := Scalar.indexCast c0_i32_155
  let c31_i32 : BitVec 32 := 31#32
  let v417 : Index := Scalar.indexCast c31_i32
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v418 : Index := Scalar.indexCast v104
  ![0, 31, v418.toNat]
def k0_off38 (k0_t1 : Fin k0_t1_loop.trips) (k0_t2 : Fin k0_t2_loop.trips) : Fin 3 → Nat :=
  let c2_i32_32 : BitVec 32 := 2#32
  let c0_i32_31 : BitVec 32 := 0#32
  let c0_i32_6 : BitVec 32 := 0#32
  let c1_i32 : BitVec 32 := 1#32
  let arg14 : BitVec 32 := Scf.iv c0_i32_6 c1_i32 k0_t1
  let c1_i32_30 : BitVec 32 := 1#32
  let v24 : BitVec 32 := Scalar.muli arg14 c1_i32_30
  let v25 : BitVec 32 := Scalar.addi c0_i32_31 v24
  let v26 : BitVec 32 := Scalar.muli c2_i32_32 v25
  let c0_i32_33 : BitVec 32 := 0#32
  let v27 : BitVec 32 := Scalar.addi v26 c0_i32_33
  let c0_i32_46 : BitVec 32 := 0#32
  let v45 : BitVec 1 := Scalar.cmpi .sgt v27 c0_i32_46
  let v46 : BitVec 32 := Scalar.extui v45
  let c0_i32_47 : BitVec 32 := 0#32
  let v47 : BitVec 1 := Scalar.cmpi .slt v27 c0_i32_47
  let v48 : BitVec 32 := Scalar.extui v47
  let v49 : BitVec 32 := Scalar.subi v46 v48
  let c3_i32 : BitVec 32 := 3#32
  let c0_i32_48 : BitVec 32 := 0#32
  let v50 : BitVec 1 := Scalar.cmpi .sgt c3_i32 c0_i32_48
  let v51 : BitVec 32 := Scalar.extui v50
  let c0_i32_49 : BitVec 32 := 0#32
  let v52 : BitVec 1 := Scalar.cmpi .slt c3_i32 c0_i32_49
  let v53 : BitVec 32 := Scalar.extui v52
  let v54 : BitVec 32 := Scalar.subi v51 v53
  let v55 : BitVec 1 := Scalar.cmpi .ne v49 v54
  let v56 : BitVec 32 := Scalar.remsi v27 c3_i32
  let c0_i32_50 : BitVec 32 := 0#32
  let v57 : BitVec 1 := Scalar.cmpi .ne v56 c0_i32_50
  let v58 : BitVec 1 := Scalar.andi v55 v57
  let v44 : BitVec 32 := Scalar.divsi v27 c3_i32
  let c1_i32_51 : BitVec 32 := 1#32
  let v59 : BitVec 32 := Scalar.subi v44 c1_i32_51
  let v60 : BitVec 32 := Scalar.select v58 v59 v44
  let v426 : Index := Scalar.indexCast v60
  let c3_i32_52 : BitVec 32 := 3#32
  let v61 : BitVec 32 := Scalar.muli v60 c3_i32_52
  let v62 : BitVec 32 := Scalar.subi v27 v61
  let v427 : Index := Scalar.indexCast v62
  let c0_i32_85 : BitVec 32 := 0#32
  let c0_i32_53 : BitVec 32 := 0#32
  let c1_i32_54 : BitVec 32 := 1#32
  let arg15 : BitVec 32 := Scf.iv c0_i32_53 c1_i32_54 k0_t2
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v428 : Index := Scalar.indexCast v104
  ![v426.toNat, v427.toNat, v428.toNat]
@[reducible] def k0_t3_loop : Scf.Loop 32 :=
  let c0_i32_80 : BitVec 32 := 0#32
  let c40_i32_81 : BitVec 32 := 40#32
  let v101 : BitVec 32 := Scalar.addi c0_i32_80 c40_i32_81
  let c1_i32_82 : BitVec 32 := 1#32
  ⟨c0_i32_80, v101, c1_i32_82⟩
def k0_off39 (k0_t1 : Fin k0_t1_loop.trips) (k0_t3 : Fin k0_t3_loop.trips) : Fin 2 → Nat :=
  let c2_i32_56 : BitVec 32 := 2#32
  let c0_i32_31 : BitVec 32 := 0#32
  let c0_i32_6 : BitVec 32 := 0#32
  let c1_i32 : BitVec 32 := 1#32
  let arg14 : BitVec 32 := Scf.iv c0_i32_6 c1_i32 k0_t1
  let c1_i32_30 : BitVec 32 := 1#32
  let v24 : BitVec 32 := Scalar.muli arg14 c1_i32_30
  let v25 : BitVec 32 := Scalar.addi c0_i32_31 v24
  let v64 : BitVec 32 := Scalar.muli c2_i32_56 v25
  let c1_i32_57 : BitVec 32 := 1#32
  let v65 : BitVec 32 := Scalar.addi v64 c1_i32_57
  let c0_i32_73 : BitVec 32 := 0#32
  let v83 : BitVec 1 := Scalar.cmpi .sgt v65 c0_i32_73
  let v84 : BitVec 32 := Scalar.extui v83
  let c0_i32_74 : BitVec 32 := 0#32
  let v85 : BitVec 1 := Scalar.cmpi .slt v65 c0_i32_74
  let v86 : BitVec 32 := Scalar.extui v85
  let v87 : BitVec 32 := Scalar.subi v84 v86
  let c3_i32_72 : BitVec 32 := 3#32
  let c0_i32_75 : BitVec 32 := 0#32
  let v88 : BitVec 1 := Scalar.cmpi .sgt c3_i32_72 c0_i32_75
  let v89 : BitVec 32 := Scalar.extui v88
  let c0_i32_76 : BitVec 32 := 0#32
  let v90 : BitVec 1 := Scalar.cmpi .slt c3_i32_72 c0_i32_76
  let v91 : BitVec 32 := Scalar.extui v90
  let v92 : BitVec 32 := Scalar.subi v89 v91
  let v93 : BitVec 1 := Scalar.cmpi .ne v87 v92
  let v94 : BitVec 32 := Scalar.remsi v65 c3_i32_72
  let c0_i32_77 : BitVec 32 := 0#32
  let v95 : BitVec 1 := Scalar.cmpi .ne v94 c0_i32_77
  let v96 : BitVec 1 := Scalar.andi v93 v95
  let v82 : BitVec 32 := Scalar.divsi v65 c3_i32_72
  let c1_i32_78 : BitVec 32 := 1#32
  let v97 : BitVec 32 := Scalar.subi v82 c1_i32_78
  let v98 : BitVec 32 := Scalar.select v96 v97 v82
  let v105 : Index := Scalar.indexCast v98
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v106 : Index := Scalar.indexCast v104
  ![v105.toNat, v106.toNat]
def k0_off40 (k0_t3 : Fin k0_t3_loop.trips) : Fin 3 → Nat :=
  let c1_i32_86 : BitVec 32 := 1#32
  let v109 : Index := Scalar.indexCast c1_i32_86
  let c0_i32_87 : BitVec 32 := 0#32
  let v110 : Index := Scalar.indexCast c0_i32_87
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v111 : Index := Scalar.indexCast v104
  ![1, 0, v111.toNat]
def k0_off41 (k0_t3 : Fin k0_t3_loop.trips) : Fin 3 → Nat :=
  let c1_i32_89 : BitVec 32 := 1#32
  let v116 : Index := Scalar.indexCast c1_i32_89
  let c1_i32_90 : BitVec 32 := 1#32
  let v117 : Index := Scalar.indexCast c1_i32_90
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v118 : Index := Scalar.indexCast v104
  ![1, 1, v118.toNat]
def k0_off42 (k0_t3 : Fin k0_t3_loop.trips) : Fin 3 → Nat :=
  let c1_i32_92 : BitVec 32 := 1#32
  let v126 : Index := Scalar.indexCast c1_i32_92
  let c2_i32_93 : BitVec 32 := 2#32
  let v127 : Index := Scalar.indexCast c2_i32_93
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v128 : Index := Scalar.indexCast v104
  ![1, 2, v128.toNat]
def k0_off43 (k0_t3 : Fin k0_t3_loop.trips) : Fin 3 → Nat :=
  let c1_i32_95 : BitVec 32 := 1#32
  let v136 : Index := Scalar.indexCast c1_i32_95
  let c3_i32_96 : BitVec 32 := 3#32
  let v137 : Index := Scalar.indexCast c3_i32_96
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v138 : Index := Scalar.indexCast v104
  ![1, 3, v138.toNat]
def k0_off44 (k0_t3 : Fin k0_t3_loop.trips) : Fin 3 → Nat :=
  let c1_i32_98 : BitVec 32 := 1#32
  let v146 : Index := Scalar.indexCast c1_i32_98
  let c4_i32 : BitVec 32 := 4#32
  let v147 : Index := Scalar.indexCast c4_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v148 : Index := Scalar.indexCast v104
  ![1, 4, v148.toNat]
def k0_off45 (k0_t3 : Fin k0_t3_loop.trips) : Fin 3 → Nat :=
  let c1_i32_100 : BitVec 32 := 1#32
  let v156 : Index := Scalar.indexCast c1_i32_100
  let c5_i32 : BitVec 32 := 5#32
  let v157 : Index := Scalar.indexCast c5_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v158 : Index := Scalar.indexCast v104
  ![1, 5, v158.toNat]
def k0_off46 (k0_t3 : Fin k0_t3_loop.trips) : Fin 3 → Nat :=
  let c1_i32_102 : BitVec 32 := 1#32
  let v166 : Index := Scalar.indexCast c1_i32_102
  let c6_i32_103 : BitVec 32 := 6#32
  let v167 : Index := Scalar.indexCast c6_i32_103
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v168 : Index := Scalar.indexCast v104
  ![1, 6, v168.toNat]
def k0_off47 (k0_t3 : Fin k0_t3_loop.trips) : Fin 3 → Nat :=
  let c1_i32_105 : BitVec 32 := 1#32
  let v176 : Index := Scalar.indexCast c1_i32_105
  let c7_i32 : BitVec 32 := 7#32
  let v177 : Index := Scalar.indexCast c7_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v178 : Index := Scalar.indexCast v104
  ![1, 7, v178.toNat]
def k0_off48 (k0_t3 : Fin k0_t3_loop.trips) : Fin 3 → Nat :=
  let c1_i32_107 : BitVec 32 := 1#32
  let v186 : Index := Scalar.indexCast c1_i32_107
  let c8_i32 : BitVec 32 := 8#32
  let v187 : Index := Scalar.indexCast c8_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v188 : Index := Scalar.indexCast v104
  ![1, 8, v188.toNat]
def k0_off49 (k0_t3 : Fin k0_t3_loop.trips) : Fin 3 → Nat :=
  let c1_i32_109 : BitVec 32 := 1#32
  let v196 : Index := Scalar.indexCast c1_i32_109
  let c9_i32 : BitVec 32 := 9#32
  let v197 : Index := Scalar.indexCast c9_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v198 : Index := Scalar.indexCast v104
  ![1, 9, v198.toNat]
def k0_off50 (k0_t3 : Fin k0_t3_loop.trips) : Fin 3 → Nat :=
  let c1_i32_111 : BitVec 32 := 1#32
  let v206 : Index := Scalar.indexCast c1_i32_111
  let c10_i32 : BitVec 32 := 10#32
  let v207 : Index := Scalar.indexCast c10_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v208 : Index := Scalar.indexCast v104
  ![1, 10, v208.toNat]
def k0_off51 (k0_t3 : Fin k0_t3_loop.trips) : Fin 3 → Nat :=
  let c1_i32_113 : BitVec 32 := 1#32
  let v216 : Index := Scalar.indexCast c1_i32_113
  let c11_i32_114 : BitVec 32 := 11#32
  let v217 : Index := Scalar.indexCast c11_i32_114
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v218 : Index := Scalar.indexCast v104
  ![1, 11, v218.toNat]
def k0_off52 (k0_t3 : Fin k0_t3_loop.trips) : Fin 3 → Nat :=
  let c1_i32_116 : BitVec 32 := 1#32
  let v226 : Index := Scalar.indexCast c1_i32_116
  let c12_i32 : BitVec 32 := 12#32
  let v227 : Index := Scalar.indexCast c12_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v228 : Index := Scalar.indexCast v104
  ![1, 12, v228.toNat]
def k0_off53 (k0_t3 : Fin k0_t3_loop.trips) : Fin 3 → Nat :=
  let c1_i32_118 : BitVec 32 := 1#32
  let v236 : Index := Scalar.indexCast c1_i32_118
  let c13_i32 : BitVec 32 := 13#32
  let v237 : Index := Scalar.indexCast c13_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v238 : Index := Scalar.indexCast v104
  ![1, 13, v238.toNat]
def k0_off54 (k0_t3 : Fin k0_t3_loop.trips) : Fin 3 → Nat :=
  let c1_i32_120 : BitVec 32 := 1#32
  let v246 : Index := Scalar.indexCast c1_i32_120
  let c14_i32 : BitVec 32 := 14#32
  let v247 : Index := Scalar.indexCast c14_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v248 : Index := Scalar.indexCast v104
  ![1, 14, v248.toNat]
def k0_off55 (k0_t3 : Fin k0_t3_loop.trips) : Fin 3 → Nat :=
  let c1_i32_122 : BitVec 32 := 1#32
  let v256 : Index := Scalar.indexCast c1_i32_122
  let c15_i32 : BitVec 32 := 15#32
  let v257 : Index := Scalar.indexCast c15_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v258 : Index := Scalar.indexCast v104
  ![1, 15, v258.toNat]
def k0_off56 (k0_t3 : Fin k0_t3_loop.trips) : Fin 3 → Nat :=
  let c1_i32_124 : BitVec 32 := 1#32
  let v266 : Index := Scalar.indexCast c1_i32_124
  let c16_i32_125 : BitVec 32 := 16#32
  let v267 : Index := Scalar.indexCast c16_i32_125
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v268 : Index := Scalar.indexCast v104
  ![1, 16, v268.toNat]
def k0_off57 (k0_t3 : Fin k0_t3_loop.trips) : Fin 3 → Nat :=
  let c1_i32_127 : BitVec 32 := 1#32
  let v276 : Index := Scalar.indexCast c1_i32_127
  let c17_i32 : BitVec 32 := 17#32
  let v277 : Index := Scalar.indexCast c17_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v278 : Index := Scalar.indexCast v104
  ![1, 17, v278.toNat]
def k0_off58 (k0_t3 : Fin k0_t3_loop.trips) : Fin 3 → Nat :=
  let c1_i32_129 : BitVec 32 := 1#32
  let v286 : Index := Scalar.indexCast c1_i32_129
  let c18_i32 : BitVec 32 := 18#32
  let v287 : Index := Scalar.indexCast c18_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v288 : Index := Scalar.indexCast v104
  ![1, 18, v288.toNat]
def k0_off59 (k0_t3 : Fin k0_t3_loop.trips) : Fin 3 → Nat :=
  let c1_i32_131 : BitVec 32 := 1#32
  let v296 : Index := Scalar.indexCast c1_i32_131
  let c19_i32 : BitVec 32 := 19#32
  let v297 : Index := Scalar.indexCast c19_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v298 : Index := Scalar.indexCast v104
  ![1, 19, v298.toNat]
def k0_off60 (k0_t3 : Fin k0_t3_loop.trips) : Fin 3 → Nat :=
  let c1_i32_133 : BitVec 32 := 1#32
  let v306 : Index := Scalar.indexCast c1_i32_133
  let c20_i32 : BitVec 32 := 20#32
  let v307 : Index := Scalar.indexCast c20_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v308 : Index := Scalar.indexCast v104
  ![1, 20, v308.toNat]
def k0_off61 (k0_t3 : Fin k0_t3_loop.trips) : Fin 3 → Nat :=
  let c1_i32_135 : BitVec 32 := 1#32
  let v316 : Index := Scalar.indexCast c1_i32_135
  let c21_i32 : BitVec 32 := 21#32
  let v317 : Index := Scalar.indexCast c21_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v318 : Index := Scalar.indexCast v104
  ![1, 21, v318.toNat]
def k0_off62 (k0_t3 : Fin k0_t3_loop.trips) : Fin 3 → Nat :=
  let c1_i32_137 : BitVec 32 := 1#32
  let v326 : Index := Scalar.indexCast c1_i32_137
  let c22_i32 : BitVec 32 := 22#32
  let v327 : Index := Scalar.indexCast c22_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v328 : Index := Scalar.indexCast v104
  ![1, 22, v328.toNat]
def k0_off63 (k0_t3 : Fin k0_t3_loop.trips) : Fin 3 → Nat :=
  let c1_i32_139 : BitVec 32 := 1#32
  let v336 : Index := Scalar.indexCast c1_i32_139
  let c23_i32 : BitVec 32 := 23#32
  let v337 : Index := Scalar.indexCast c23_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v338 : Index := Scalar.indexCast v104
  ![1, 23, v338.toNat]
def k0_off64 (k0_t3 : Fin k0_t3_loop.trips) : Fin 3 → Nat :=
  let c1_i32_141 : BitVec 32 := 1#32
  let v346 : Index := Scalar.indexCast c1_i32_141
  let c24_i32 : BitVec 32 := 24#32
  let v347 : Index := Scalar.indexCast c24_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v348 : Index := Scalar.indexCast v104
  ![1, 24, v348.toNat]
def k0_off65 (k0_t3 : Fin k0_t3_loop.trips) : Fin 3 → Nat :=
  let c1_i32_143 : BitVec 32 := 1#32
  let v356 : Index := Scalar.indexCast c1_i32_143
  let c25_i32 : BitVec 32 := 25#32
  let v357 : Index := Scalar.indexCast c25_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v358 : Index := Scalar.indexCast v104
  ![1, 25, v358.toNat]
def k0_off66 (k0_t3 : Fin k0_t3_loop.trips) : Fin 3 → Nat :=
  let c1_i32_145 : BitVec 32 := 1#32
  let v366 : Index := Scalar.indexCast c1_i32_145
  let c26_i32 : BitVec 32 := 26#32
  let v367 : Index := Scalar.indexCast c26_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v368 : Index := Scalar.indexCast v104
  ![1, 26, v368.toNat]
def k0_off67 (k0_t3 : Fin k0_t3_loop.trips) : Fin 3 → Nat :=
  let c1_i32_147 : BitVec 32 := 1#32
  let v376 : Index := Scalar.indexCast c1_i32_147
  let c27_i32 : BitVec 32 := 27#32
  let v377 : Index := Scalar.indexCast c27_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v378 : Index := Scalar.indexCast v104
  ![1, 27, v378.toNat]
def k0_off68 (k0_t3 : Fin k0_t3_loop.trips) : Fin 3 → Nat :=
  let c1_i32_149 : BitVec 32 := 1#32
  let v386 : Index := Scalar.indexCast c1_i32_149
  let c28_i32 : BitVec 32 := 28#32
  let v387 : Index := Scalar.indexCast c28_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v388 : Index := Scalar.indexCast v104
  ![1, 28, v388.toNat]
def k0_off69 (k0_t3 : Fin k0_t3_loop.trips) : Fin 3 → Nat :=
  let c1_i32_151 : BitVec 32 := 1#32
  let v396 : Index := Scalar.indexCast c1_i32_151
  let c29_i32 : BitVec 32 := 29#32
  let v397 : Index := Scalar.indexCast c29_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v398 : Index := Scalar.indexCast v104
  ![1, 29, v398.toNat]
def k0_off70 (k0_t3 : Fin k0_t3_loop.trips) : Fin 3 → Nat :=
  let c1_i32_153 : BitVec 32 := 1#32
  let v406 : Index := Scalar.indexCast c1_i32_153
  let c30_i32 : BitVec 32 := 30#32
  let v407 : Index := Scalar.indexCast c30_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v408 : Index := Scalar.indexCast v104
  ![1, 30, v408.toNat]
def k0_off71 (k0_t3 : Fin k0_t3_loop.trips) : Fin 3 → Nat :=
  let c1_i32_155 : BitVec 32 := 1#32
  let v416 : Index := Scalar.indexCast c1_i32_155
  let c31_i32 : BitVec 32 := 31#32
  let v417 : Index := Scalar.indexCast c31_i32
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v418 : Index := Scalar.indexCast v104
  ![1, 31, v418.toNat]
def k0_off72 (k0_t1 : Fin k0_t1_loop.trips) (k0_t3 : Fin k0_t3_loop.trips) : Fin 3 → Nat :=
  let c2_i32_56 : BitVec 32 := 2#32
  let c0_i32_31 : BitVec 32 := 0#32
  let c0_i32_6 : BitVec 32 := 0#32
  let c1_i32 : BitVec 32 := 1#32
  let arg14 : BitVec 32 := Scf.iv c0_i32_6 c1_i32 k0_t1
  let c1_i32_30 : BitVec 32 := 1#32
  let v24 : BitVec 32 := Scalar.muli arg14 c1_i32_30
  let v25 : BitVec 32 := Scalar.addi c0_i32_31 v24
  let v64 : BitVec 32 := Scalar.muli c2_i32_56 v25
  let c1_i32_57 : BitVec 32 := 1#32
  let v65 : BitVec 32 := Scalar.addi v64 c1_i32_57
  let c0_i32_73 : BitVec 32 := 0#32
  let v83 : BitVec 1 := Scalar.cmpi .sgt v65 c0_i32_73
  let v84 : BitVec 32 := Scalar.extui v83
  let c0_i32_74 : BitVec 32 := 0#32
  let v85 : BitVec 1 := Scalar.cmpi .slt v65 c0_i32_74
  let v86 : BitVec 32 := Scalar.extui v85
  let v87 : BitVec 32 := Scalar.subi v84 v86
  let c3_i32_72 : BitVec 32 := 3#32
  let c0_i32_75 : BitVec 32 := 0#32
  let v88 : BitVec 1 := Scalar.cmpi .sgt c3_i32_72 c0_i32_75
  let v89 : BitVec 32 := Scalar.extui v88
  let c0_i32_76 : BitVec 32 := 0#32
  let v90 : BitVec 1 := Scalar.cmpi .slt c3_i32_72 c0_i32_76
  let v91 : BitVec 32 := Scalar.extui v90
  let v92 : BitVec 32 := Scalar.subi v89 v91
  let v93 : BitVec 1 := Scalar.cmpi .ne v87 v92
  let v94 : BitVec 32 := Scalar.remsi v65 c3_i32_72
  let c0_i32_77 : BitVec 32 := 0#32
  let v95 : BitVec 1 := Scalar.cmpi .ne v94 c0_i32_77
  let v96 : BitVec 1 := Scalar.andi v93 v95
  let v82 : BitVec 32 := Scalar.divsi v65 c3_i32_72
  let c1_i32_78 : BitVec 32 := 1#32
  let v97 : BitVec 32 := Scalar.subi v82 c1_i32_78
  let v98 : BitVec 32 := Scalar.select v96 v97 v82
  let v426 : Index := Scalar.indexCast v98
  let c3_i32_79 : BitVec 32 := 3#32
  let v99 : BitVec 32 := Scalar.muli v98 c3_i32_79
  let v100 : BitVec 32 := Scalar.subi v65 v99
  let v427 : Index := Scalar.indexCast v100
  let c0_i32_85 : BitVec 32 := 0#32
  let c0_i32_80 : BitVec 32 := 0#32
  let c1_i32_82 : BitVec 32 := 1#32
  let arg15 : BitVec 32 := Scf.iv c0_i32_80 c1_i32_82 k0_t3
  let c1_i32_84 : BitVec 32 := 1#32
  let v102 : BitVec 32 := Scalar.muli arg15 c1_i32_84
  let v103 : BitVec 32 := Scalar.addi c0_i32_85 v102
  let c16_i32 : BitVec 32 := 16#32
  let v104 : BitVec 32 := Scalar.muli v103 c16_i32
  let v428 : Index := Scalar.indexCast v104
  ![v426.toNat, v427.toNat, v428.toNat]
def k0_off73 (i : grid0.Coords) : Fin 2 → Nat :=
  let c352_i32 : BitVec 32 := 352#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![352, v2.toNat]
def k0_off74 (i : grid0.Coords) : Fin 3 → Nat :=
  let c0_i32_14 : BitVec 32 := 0#32
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![0, 0, v2.toNat]
abbrev grid1 : Pipeline.Grid := ⟨2, ![4, 6], ![false, false]⟩

def cc1_transform_0 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi arg1 c10_i32
  let c0_i32 : BitVec 32 := 0#32
  let c0_i32_0 : BitVec 32 := 0#32
  ![c0_i32.toNat, v0.toNat]

def cc1_transform_1 (i : grid1.Coords) : Fin 4 → Nat :=
  let arg0 : BitVec 32 := BitVec.ofNat 32 (i 0).val
  let arg1 : BitVec 32 := BitVec.ofNat 32 (i 1).val
  let c10_i32 : BitVec 32 := 10#32
  let v0 : BitVec 32 := Scalar.addi arg1 c10_i32
  let c0_i32 : BitVec 32 := 0#32
  let c0_i32_0 : BitVec 32 := 0#32
  let c0_i32_1 : BitVec 32 := 0#32
  ![arg0.toNat, c0_i32.toNat, c0_i32_0.toNat, v0.toNat]

def cc1_transform_2 (i : grid1.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi arg1 c10_i32
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi arg1 c10_i32
  let c0_i32 : BitVec 32 := 0#32
  let c0_i32_0 : BitVec 32 := 0#32
  ![arg0.toNat, c0_i32.toNat, v0.toNat]

abbrev stage1_0 : Fin 2 → Memref sig .tc .vmem S4x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x3x32x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x3x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x3x2048 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x32768 : Shape := ⟨2, ![4, 32768]⟩
abbrev S4x3x32x32768 : Shape := ⟨4, ![4, 3, 32, 32768]⟩
abbrev S4x1x1x32768 : Shape := ⟨4, ![4, 1, 1, 32768]⟩
abbrev S_ : Shape := ⟨0, ![]⟩
abbrev S4x3x32768 : Shape := ⟨3, ![4, 3, 32768]⟩

abbrev nBuf : Space → Nat
  | .hbm => 12
  | .vmem => 0
  | .smem => 0
  | _ => 0

abbrev bufTy : (tb : Table) → Fin (tcTables nBuf tb) → BufTy
  | .hbm, ⟨0, _⟩ => ⟨S4x32768, .f32⟩
  | .hbm, ⟨1, _⟩ => ⟨S4x3x32x32768, .f32⟩
  | .hbm, ⟨2, _⟩ => ⟨S4x1x1x32768, .f32⟩
  | .hbm, ⟨3, _⟩ => ⟨S4x3x32x32768, .f32⟩
  | .hbm, ⟨4, _⟩ => ⟨S4x3x32x32768, .f32⟩
  | .hbm, ⟨5, _⟩ => ⟨S_, .f32⟩
  | .hbm, ⟨6, _⟩ => ⟨S4x3x32768, .f32⟩
  | .hbm, ⟨7, _⟩ => ⟨S4x3x32x32768, .i32⟩
  | .hbm, ⟨8, _⟩ => ⟨S_, .f32⟩
  | .hbm, ⟨9, _⟩ => ⟨S_, .i32⟩
  | .hbm, ⟨10, _⟩ => ⟨S4x3x32768, .f32⟩
  | .hbm, ⟨11, _⟩ => ⟨S4x3x32768, .i32⟩
  | _, _ => ⟨S4x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_c : Ref sig .tc := ⟨.hbm, 9, rfl⟩
abbrev main_call0_v1_0 : Ref sig .tc := ⟨.hbm, 10, rfl⟩
abbrev main_v4 : Ref sig .tc := ⟨.hbm, 11, rfl⟩

abbrev nD : Nat := 1
abbrev τ : Topo := Topo.v7x

variable {F : FTy → Type} [FloatOps F]
-- ==== Proof.Setup.lean ====
/-
  The program as the launch theorem reads it, the resource algebra, the buffers, and the values the kernel computes,
  written as plain functions of the two arguments.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.MaxIdx

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake's semaphores are distinct, unscoped, and no buffer of a SparseCore is shared by a task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the block pipeline's rounds, the copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The two arguments, the reshaped second argument and the two results of the SparseCore call, as locations of device `d`. -/
abbrev aLoc (d : Dev nD) : Loc nD τ sig := (SparseCore.T d).loc main_arg0
abbrev rLoc (d : Dev nD) : Loc nD τ sig := (SparseCore.T d).loc main_arg1
abbrev bLoc (d : Dev nD) : Loc nD τ sig := (SparseCore.T d).loc main_v0
abbrev xLoc (d : Dev nD) : Loc nD τ sig := (SparseCore.T d).loc main_v1_0
abbrev iLoc (d : Dev nD) : Loc nD τ sig := (SparseCore.T d).loc main_v1_1

/-! ## Indices from plain numbers -/

/-- The index of a rank-two shape at plain numbers (taken modulo the extents). -/
def at2 {n0 n1 : ℕ} (h0 : 0 < n0) (h1 : 0 < n1) (i j : ℕ) : (a : Fin 2) → Fin (![n0, n1] a) :=
  fun a => match a with
  | 0 => ⟨i % n0, Nat.mod_lt _ h0⟩
  | 1 => ⟨j % n1, Nat.mod_lt _ h1⟩

variable [FloatOps F]

/-! ## The running maximum and its index, of a sequence of numbers -/

/-- The largest of `p 0, …, p n`, taken in order. -/
def runMax (p : ℕ → F .f32) : ℕ → F .f32
  | 0 => p 0
  | n + 1 => FloatOps.maximumf (runMax p n) (p (n + 1))

/-- The place in `0, …, n` at which `runMax` last grew. -/
def runIdx (p : ℕ → F .f32) : ℕ → BitVec 32
  | 0 => 0#32
  | n + 1 => if FloatOps.cmpf .ogt (p (n + 1)) (runMax p n) = 1#1 then BitVec.ofNat 32 (n + 1) else runIdx p n

/-- Entry `(i, j)` of the first argument. -/
def fA (A : S4x32768.Idx → F .f32) (i j : ℕ) : F .f32 := A (at2 (by decide) (by decide) i j)
/-- Entry `(i, j)` of the reshaped second argument. -/
def fB (B : S384x32768.Idx → F .f32) (i j : ℕ) : F .f32 := B (at2 (by decide) (by decide) i j)

theorem fA_eq (A : S4x32768.Idx → F .f32) (y : S4x32768.Idx) (i j : ℕ) (h0 : (y 0).val = i) (h1 : (y 1).val = j) : A y = fA A i j := by
  subst h0 h1
  refine congrArg A (funext fun a => Fin.ext ?_)
  match a with
  | 0 => exact (Nat.mod_eq_of_lt (y 0).isLt).symm
  | 1 => exact (Nat.mod_eq_of_lt (y 1).isLt).symm
theorem fB_eq (B : S384x32768.Idx → F .f32) (y : S384x32768.Idx) (i j : ℕ) (h0 : (y 0).val = i) (h1 : (y 1).val = j) : B y = fB B i j := by
  subst h0 h1
  refine congrArg B (funext fun a => Fin.ext ?_)
  match a with
  | 0 => exact (Nat.mod_eq_of_lt (y 0).isLt).symm
  | 1 => exact (Nat.mod_eq_of_lt (y 1).isLt).symm

/-- The thirty-two products at result row `g = 3 b + a` and column `x`. -/
def prods (A : S4x32768.Idx → F .f32) (B : S384x32768.Idx → F .f32) (g x n : ℕ) : F .f32 :=
  FloatOps.mulf (fA A (g / 3) x) (fB B (32 * g + n) x)

/-- The largest product and its place, at result row `g` and column `x`. -/
def maxAt (A : S4x32768.Idx → F .f32) (B : S384x32768.Idx → F .f32) (g x : ℕ) : F .f32 := runMax (prods A B g x) 31
def idxAt (A : S4x32768.Idx → F .f32) (B : S384x32768.Idx → F .f32) (g x : ℕ) : BitVec 32 := runIdx (prods A B g x) 31

end Cert.Proof.MaxIdx

end
-- ==== Proof.Reference.lean ====
/-
  The reference: its run, its results as functions of the two arguments, its frame.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.Proof.MaxIdx.Ref

open Cert.ReferenceIdeal Cert.ReferenceIdeal.Gen

open Idealize.ShloMosaic
open Idealize.SL Idealize.SL.Sem
open Idealize.ShloMosaic.StableHlo
open Idealize.ShloMosaic.TcCoe

variable {F : FTy → Type} [FloatOps F]

/-- The program's operations in order: the repeated rows, the products, their maximum, their arg-max. -/
def ops : List (HloOp τ sig (Elt F)) :=
  [unary main_arg0 main_v0 (broadcastInDim S4x1x1x32768 ![0, 3] bcast_S4x32768_S4x1x1x32768_0_3 : (⟨S4x32768, .f32⟩ : BufTy).Contents (Elt F) → (⟨S4x1x1x32768, .f32⟩ : BufTy).Contents (Elt F)),
    unary main_v0 main_v1 (broadcastInDim S4x3x32x32768 ![0, 1, 2, 3] bcast_S4x1x1x32768_S4x3x32x32768_0_1_2_3 : (⟨S4x1x1x32768, .f32⟩ : BufTy).Contents (Elt F) → (⟨S4x3x32x32768, .f32⟩ : BufTy).Contents (Elt F)),
    binary main_v1 main_arg1 main_v2 (mulf : (⟨S4x3x32x32768, .f32⟩ : BufTy).Contents (Elt F) → (⟨S4x3x32x32768, .f32⟩ : BufTy).Contents (Elt F) → (⟨S4x3x32x32768, .f32⟩ : BufTy).Contents (Elt F)),
    nullary main_cst (constant S_ .f32 0xFF800000#32),
    binary main_v2 main_cst main_v3 ((fun x v => Host.reduce FloatOps.maximumf x v reducesTo_S4x3x32x32768_S4x3x32768_d2 h_S_) : (⟨S4x3x32x32768, .f32⟩ : BufTy).Contents (Elt F) → (⟨S_, .f32⟩ : BufTy).Contents (Elt F) → (⟨S4x3x32768, .f32⟩ : BufTy).Contents (Elt F)),
    TRef.nullary main_call0.v0 (iotaInDim S4x3x32x32768 32 2),
    TRef.nullary main_call0.cst (constant S_ .f32 0xFF800000#32),
    TRef.nullary main_call0.c (constantI S_ 32 0#32),
    TRef.quaternary (.of main_v2) main_call0.v0 main_call0.cst main_call0.c main_call0.v1_0 (fun x y u v j => (Host.argReduce reducer_argmax_f32_i32 x y u v reducesTo_S4x3x32x32768_S4x3x32768_d2 h_S_ j).1),
    TRef.quaternary (.of main_v2) main_call0.v0 main_call0.cst main_call0.c main_call0.v1_1 (fun x y u v j => (Host.argReduce reducer_argmax_f32_i32 x y u v reducesTo_S4x3x32x32768_S4x3x32768_d2 h_S_ j).2)]

/-- The program is these operations, one after the other. -/
theorem main_eq (d : Dev nD) : main (F := F) d = seq (ops (F := F)) := rfl

/-- Every operation's buffers are the TensorCore's. -/
theorem ops_bufs : (ops (F := F)).Forall fun op => op.bufs ⊆ tcRefs τ sig :=
  ⟨unary_bufs_sub .., unary_bufs_sub .., binary_bufs_sub .., nullary_bufs_sub .., binary_bufs_sub .., nullary_bufs_sub .., nullary_bufs_sub ..,
    nullary_bufs_sub .., quaternary_bufs_sub .., quaternary_bufs_sub ..⟩

/-- No operation leaves a result undefined. -/
theorem ops_fresh : ∀ op ∈ (ops (F := F)), op.fresh = ∅ :=
  List.forall_iff_forall_mem.mp ⟨rfl, rfl, rfl, rfl, rfl, rfl, rfl, rfl, rfl, rfl⟩

variable (m : (ℓ : Loc nD τ sig) → Buf (Elt F) ℓ) (ρ : Dev nD → PrngReg)

/-- The reference's run: every buffer ends at the operations' composition. -/
theorem run_main : θ_run (defs (F := F)) (onTc (τ := τ) (main (F := F))) ⟨m, fun _ => 0, ρ⟩
    fun r => ∀ (d : Dev nD) (b : Ref sig .tc), r.2.mem ((d.tc : Thread nD τ).loc b) = after (ops (F := F)) (launchContents m d) (Proc.devRef .tc b) :=
  run_seq (by decide) (by decide) defs main (fun _ => ops) main_eq (fun _ => ops_bufs) m ρ (fun _ => ops_fresh)

/-- The products: each row of the first argument times the 96 rows of the second it pairs with. -/
def refP (A : FVec F S4x32768 .f32) (R : FVec F S4x3x32x32768 .f32) : FVec F S4x3x32x32768 .f32 :=
  mulf (broadcastInDim S4x3x32x32768 ![0, 1, 2, 3] bcast_S4x1x1x32768_S4x3x32x32768_0_1_2_3
    (broadcastInDim S4x1x1x32768 ![0, 3] bcast_S4x32768_S4x1x1x32768_0_3 A)) R

/-- The maximum of the products over the axis of 32. -/
def refX (A : FVec F S4x32768 .f32) (R : FVec F S4x3x32x32768 .f32) : FVec F S4x3x32768 .f32 :=
  Host.reduce FloatOps.maximumf (refP A R) (constant S_ .f32 0xFF800000#32) reducesTo_S4x3x32x32768_S4x3x32768_d2 h_S_

/-- The maximum of the products over the axis of 32 with its place. -/
def refPair (A : FVec F S4x32768 .f32) (R : FVec F S4x3x32x32768 .f32) : S4x3x32768.Idx → F .f32 × BitVec 32 :=
  Host.argReduce reducer_argmax_f32_i32 (refP A R) (iotaInDim S4x3x32x32768 32 2) (constant S_ .f32 0xFF800000#32) (constantI S_ 32 0#32)
    reducesTo_S4x3x32x32768_S4x3x32768_d2 h_S_

/-- The arg-max of the products over the axis of 32. -/
def refI (A : FVec F S4x32768 .f32) (R : FVec F S4x3x32x32768 .f32) : IVec S4x3x32768 32 := fun j => (refPair A R j).2

variable (V : Valuation τ sig (Elt F))

theorem after_arg0 : after (ops (F := F)) V (Proc.devRef .tc main_arg0) = V (Proc.devRef .tc main_arg0) := by
  unfold ops; after_results_simp
theorem after_arg1 : after (ops (F := F)) V (Proc.devRef .tc main_arg1) = V (Proc.devRef .tc main_arg1) := by
  unfold ops; after_results_simp
/-- The first result after the operations. -/
theorem after_v3 : after (ops (F := F)) V (Proc.devRef .tc main_v3) = refX (V (Proc.devRef .tc main_arg0)) (V (Proc.devRef .tc main_arg1)) := by
  unfold ops; after_results_simp
  rfl
/-- The second result after the operations. -/
theorem after_v4 : after (ops (F := F)) V (Proc.devRef .tc main_v4) = refI (V (Proc.devRef .tc main_arg0)) (V (Proc.devRef .tc main_arg1)) := by
  unfold ops; after_results_simp
  rfl

/-- The reference terminates without undefined behaviour, leaves its arguments as they were, and its counters at zero (it has none). -/
theorem frame : Cert.quiescent_ReferenceIdeal := by
  intro m ρ _
  exact (θ_run Cert.ReferenceIdeal.defs _ _).mono (fun r h => ⟨fun c => ⟨(h c main_arg0).trans (after_arg0 _), (h c main_arg1).trans (after_arg1 _)⟩,
    Idealize.ShloMosaic.sem_eq_zero_of_no_sems (by decide) r.2⟩) (run_main (F := Ideal) m ρ)

end Cert.Proof.MaxIdx.Ref

end
-- ==== Proof.Pick.lean ====
/-
  The largest of thirty-two extended reals and the first place it is at: what the three ways of finding them agree on.
-/
module

public import proofs.«01_k».proof.Proof.Setup
public import proofs.«01_k».proof.Proof.Reference
public import Idealize.ShloMosaic.PureOps.Ideal.Laws
public import Idealize.ShloMosaic.Lib.SortNet.Extract

@[expose] public section

noncomputable section

namespace Cert.Proof.MaxIdx

open Idealize.ShloMosaic

/-- `v` is the largest of `p 0, …, p 31` and `k` the first place it is at. -/
structure First (p : ℕ → Ideal .f32) (v : Ideal .f32) (k : ℕ) : Prop where
  lt : k < 32
  at_k : p k = v
  le : ∀ n, n < 32 → (p n : EReal) ≤ v
  ne : ∀ n, n < k → p n ≠ v

/-- A number below 32 as a word, read as an integer. -/
theorem toInt_small (n : ℕ) (h : n ≤ 32) : (BitVec.ofNat 32 n).toInt = n := by
  have e : (BitVec.ofNat 32 n).toNat = n := by
    rw [BitVec.toNat_ofNat]; exact Nat.mod_eq_of_lt (by omega)
  rw [BitVec.toInt_eq_toNat_of_lt (by rw [e]; omega), e]

/-- The running maximum's comparison, at the extended reals. -/
theorem ogt_iff (x y : Ideal .f32) : FloatOps.cmpf .ogt x y = 1#1 ↔ (y : EReal) < x := by
  rw [Ideal.cmpf_def]
  by_cases h : (y : EReal) < x <;> simp [Ideal.cmp, h]
theorem oeq_iff (x y : Ideal .f32) : FloatOps.cmpf .oeq x y = 1#1 ↔ x = y := by
  rw [Ideal.cmpf_def]
  by_cases h : x = y <;> simp [Ideal.cmp, h]

/-- After `n` steps the running pair is the maximum so far and the first place it is at. -/
theorem run_first (p : ℕ → Ideal .f32) (n : ℕ) : ∃ k, k ≤ n ∧ runIdx p n = BitVec.ofNat 32 k ∧ p k = runMax p n
    ∧ (∀ j, j ≤ n → (p j : EReal) ≤ runMax p n) ∧ ∀ j, j < k → p j ≠ runMax p n := by
  induction n with
  | zero => exact ⟨0, le_rfl, rfl, rfl, fun j hj => by rw [Nat.le_zero.mp hj]; exact le_refl (p 0 : EReal), fun j hj => absurd hj (Nat.not_lt_zero j)⟩
  | succ n ih =>
    obtain ⟨k, hk, hi, hp, hle, hne⟩ := ih
    have em : (runMax p (n + 1) : EReal) = max (runMax p n : EReal) (p (n + 1)) := rfl
    by_cases h : (runMax p n : EReal) < p (n + 1)
    · have em' : runMax p (n + 1) = p (n + 1) := em.trans (max_eq_right h.le)
      refine ⟨n + 1, le_rfl, if_pos ((ogt_iff _ _).mpr h), em'.symm, fun j hj => ?_, fun j hj e => ?_⟩
      · rw [em']
        rcases Nat.lt_or_ge j (n + 1) with hj' | hj'
        · exact (hle j (by omega)).trans h.le
        · rw [show j = n + 1 by omega]
      · rw [em'] at e
        exact absurd (hle j (by omega)) (not_le.mpr (e ▸ h))
    · have em' : runMax p (n + 1) = runMax p n := em.trans (max_eq_left (not_lt.mp h))
      refine ⟨k, by omega, (if_neg fun e => h ((ogt_iff _ _).mp e)).trans hi, hp.trans em'.symm, fun j hj => ?_, fun j hj => ?_⟩
      · rw [em']
        rcases Nat.lt_or_ge j (n + 1) with hj' | hj'
        · exact hle j (by omega)
        · rw [show j = n + 1 by omega]; exact not_lt.mp h
      · rw [em']; exact hne j hj

/-- The running pair over thirty-two numbers. -/
theorem first_run (p : ℕ → Ideal .f32) : ∃ k, First p (runMax p 31) k ∧ runIdx p 31 = BitVec.ofNat 32 k := by
  obtain ⟨k, hk, hi, hp, hle, hne⟩ := run_first p 31
  exact ⟨k, ⟨by omega, hp, fun n hn => hle n (by omega), hne⟩, hi⟩

variable {p : ℕ → Ideal .f32} {v : Ideal .f32} {k : ℕ}

/-- The fold of `max` over the thirty-two numbers is the largest. -/
theorem First.fold_max (h : First p v k) : (Finset.univ : Finset (Fin 32)).fold max (⊥ : EReal) (fun n => (p n.val : EReal)) = v := by
  refine le_antisymm ((Finset.fold_max_le (s := Finset.univ) (f := fun n : Fin 32 => (p n.val : EReal)) (b := ⊥) (v : EReal)).mpr ⟨bot_le, fun n _ => h.le n.val n.isLt⟩) ?_
  exact (Finset.le_fold_max (s := Finset.univ) (f := fun n : Fin 32 => (p n.val : EReal)) (b := ⊥) (v : EReal)).mpr (.inr ⟨⟨k, h.lt⟩, Finset.mem_univ _, le_of_eq h.at_k.symm⟩)

/-- The least of the places at which the largest is attained, `32` standing for the others, is the first. -/
theorem First.fold_min (h : First p v k) (g : Fin 32 → BitVec 32) (hg : ∀ n : Fin 32, g n = if p n.val = v then BitVec.ofNat 32 n.val else 32#32) :
    (Finset.univ : Finset (Fin 32)).fold IntOp.minsi 2147483647#32 g = BitVec.ofNat 32 k := by
  apply BitVec.eq_of_toInt_eq
  rw [← Finset.fold_hom (op := IntOp.minsi) (op' := min) (m := BitVec.toInt) SortNet.toInt_minsi, toInt_small k h.lt.le]
  have hk : (g ⟨k, h.lt⟩).toInt = k := by
    rw [hg, if_pos h.at_k, toInt_small k h.lt.le]
  refine le_antisymm ((Finset.fold_min_le (s := Finset.univ) (f := fun n : Fin 32 => (g n).toInt) (b := _) (k : ℤ)).mpr (.inr ⟨⟨k, h.lt⟩, Finset.mem_univ _, le_of_eq hk⟩)) ?_
  refine (Finset.le_fold_min (s := Finset.univ) (f := fun n : Fin 32 => (g n).toInt) (b := _) (k : ℤ)).mpr ⟨?_, fun n _ => ?_⟩
  · have := h.lt
    rw [show (2147483647#32).toInt = 2147483647 by decide]; omega
  · have := h.lt
    rw [hg]
    by_cases e : p n.val = v
    · rw [if_pos e, toInt_small _ n.isLt.le]
      have : ¬ n.val < k := fun hn => h.ne _ hn e
      omega
    · rw [if_neg e, show (32#32).toInt = 32 by decide]; omega

/-- The reference's reducer keeps the pair of the larger number, of equal ones the pair of the smaller index. -/
theorem reducer_eq (a b : Ideal .f32 × BitVec 32) : Cert.ReferenceIdeal.reducer_argmax_f32_i32 a b
    = if (b.1 : EReal) < a.1 ∨ (a.1 = b.1 ∧ a.2.toInt < b.2.toInt) then a else b := by
  obtain ⟨a1, a2⟩ := a
  obtain ⟨b1, b2⟩ := b
  unfold Cert.ReferenceIdeal.reducer_argmax_f32_i32
  simp only [Ideal.cmpf_def, Ideal.cmp]
  by_cases h1 : (b1 : EReal) < a1
  · have e1 : ∀ x : BitVec 1, 1#1 ||| x = 1#1 := by decide
    simp [h1, e1, Scalar.select, IntOp.ori]
  · by_cases h2 : a1 = b1
    · subst h2
      by_cases h3 : a2.toInt < b2.toInt
      · simp [h3, Scalar.select, IntOp.ori, IntOp.andi, IntOp.cmpi, BitVec.slt]
      · simp [h3, Scalar.select, IntOp.ori, IntOp.andi, IntOp.cmpi, BitVec.slt]
    · simp [h1, h2, Scalar.select, IntOp.ori, IntOp.andi]

/-- `q` is not ahead of `r`: a smaller number, or the same number at no smaller an index. -/
def Behind (q r : Ideal .f32 × BitVec 32) : Prop := (q.1 : EReal) < r.1 ∨ (q.1 = r.1 ∧ r.2.toInt ≤ q.2.toInt)

theorem Behind.refl (q : Ideal .f32 × BitVec 32) : Behind q q := .inr ⟨rfl, le_rfl⟩
theorem Behind.trans {q r s : Ideal .f32 × BitVec 32} (h : Behind q r) (h' : Behind r s) : Behind q s := by
  rcases h with h | ⟨h, hi⟩ <;> rcases h' with h' | ⟨h', hi'⟩
  · exact .inl (lt_trans h h')
  · exact .inl (h' ▸ h)
  · exact .inl (h ▸ h')
  · exact .inr ⟨h.trans h', hi'.trans hi⟩

/-- The reducer returns one of its operands, and neither is ahead of it. -/
theorem reducer_spec (a b : Ideal .f32 × BitVec 32) :
    (Cert.ReferenceIdeal.reducer_argmax_f32_i32 a b = a ∨ Cert.ReferenceIdeal.reducer_argmax_f32_i32 a b = b)
      ∧ Behind a (Cert.ReferenceIdeal.reducer_argmax_f32_i32 a b) ∧ Behind b (Cert.ReferenceIdeal.reducer_argmax_f32_i32 a b) := by
  rw [reducer_eq]
  by_cases h : (b.1 : EReal) < a.1 ∨ (a.1 = b.1 ∧ a.2.toInt < b.2.toInt)
  · rw [if_pos h]
    exact ⟨.inl rfl, .refl a, h.imp id fun e => ⟨e.1.symm, e.2.le⟩⟩
  · rw [if_neg h]
    rw [not_or, not_and, not_lt, not_lt] at h
    refine ⟨.inr rfl, ?_, .refl b⟩
    rcases lt_or_eq_of_le h.1 with h1 | h1
    · exact .inl h1
    · exact .inr ⟨h1, h.2 h1⟩

/-- The fold of the reducer returns a member, and no member is ahead of it. -/
theorem foldl_spec (l : List (Ideal .f32 × BitVec 32)) (a : Ideal .f32 × BitVec 32) :
    l.foldl Cert.ReferenceIdeal.reducer_argmax_f32_i32 a ∈ a :: l
      ∧ ∀ q ∈ a :: l, Behind q (l.foldl Cert.ReferenceIdeal.reducer_argmax_f32_i32 a) := by
  induction l generalizing a with
  | nil => exact ⟨List.mem_cons_self, fun q hq => by rw [List.mem_singleton.mp hq]; exact .refl a⟩
  | cons b l ih =>
    obtain ⟨hm, hb⟩ := ih (Cert.ReferenceIdeal.reducer_argmax_f32_i32 a b)
    obtain ⟨h1, h2, h3⟩ := reducer_spec a b
    rw [List.foldl_cons]
    constructor
    · rcases List.mem_cons.mp hm with e | e
      · rcases h1 with h1 | h1 <;> rw [h1] at e <;> simp only [h1] <;> rw [e] <;> simp
      · exact List.mem_cons_of_mem _ (List.mem_cons_of_mem _ e)
    · intro q hq
      have h0 := hb _ List.mem_cons_self
      rcases List.mem_cons.mp hq with e | e
      · rw [e]; exact h2.trans h0
      rcases List.mem_cons.mp e with e | e
      · rw [e]; exact h3.trans h0
      · exact hb q (List.mem_cons_of_mem _ e)

/-- The reducer folded over the thirty-two pairs, in any order, from the lowest number at index zero. -/
theorem First.foldl (h : First p v k) (l : List (Ideal .f32 × BitVec 32)) (hl : ∀ q, q ∈ l ↔ ∃ n, n < 32 ∧ q = (p n, BitVec.ofNat 32 n)) :
    l.foldl Cert.ReferenceIdeal.reducer_argmax_f32_i32 ((⊥ : EReal), 0#32) = (v, BitVec.ofNat 32 k) := by
  obtain ⟨hm, hb⟩ := foldl_spec l ((⊥ : EReal), 0#32)
  have hk := hb (p k, BitVec.ofNat 32 k) (List.mem_cons_of_mem _ ((hl _).mpr ⟨k, h.lt, rfl⟩))
  rcases List.mem_cons.mp hm with e | e
  · rw [e] at hk ⊢
    rcases hk with hk | ⟨hk, -⟩
    · exact absurd hk not_lt_bot
    have hv : v = (⊥ : EReal) := h.at_k.symm.trans hk
    have h0 : k = 0 := by
      by_contra hne
      refine h.ne 0 (Nat.pos_of_ne_zero hne) (hv ▸ ?_)
      exact le_antisymm (hv ▸ h.le 0 (by decide)) bot_le
    rw [hv, h0]
  · obtain ⟨n, hn, e'⟩ := (hl _).mp e
    rw [e'] at hk ⊢
    rcases hk with hk | ⟨hk, hi⟩
    · exact absurd (h.le n hn) (not_le.mpr (h.at_k ▸ hk))
    have hpn : p n = v := hk.symm.trans h.at_k
    have hi' : (BitVec.ofNat 32 n).toInt ≤ (BitVec.ofNat 32 k).toInt := hi
    rw [toInt_small n hn.le, toInt_small k h.lt.le] at hi'
    have hnk : ¬ n < k := fun hlt => h.ne n hlt hpn
    rw [hpn, show n = k by omega]

end Cert.Proof.MaxIdx

end
-- ==== Proof.RefValues.lean ====
/-
  The reference's results over the extended reals: at every index the largest of thirty-two products and the first place
  it is at.
-/
module

public import proofs.«01_k».proof.Proof.Pick
public import Idealize.ShloMosaic.Lib.Pipeline.Value

@[expose] public section

noncomputable section

namespace Cert.Proof.MaxIdx

open Cert.KernelIdeal Cert.KernelIdeal.Gen

open Idealize.ShloMosaic
open Idealize.SL Idealize.SL.Sem

/-! ## The products -/

variable (A : S4x32768.Idx → Ideal .f32) (R : S4x3x32x32768.Idx → Ideal .f32)

/-- The first argument's index that result index `y` reads. -/
def ixA (y : S4x3x32768.Idx) : S4x32768.Idx := fun a => match a with
  | 0 => y 0
  | 1 => y 2
/-- The second argument's index that result index `y` reads at place `n`. -/
def ixR (y : S4x3x32768.Idx) (n : ℕ) : S4x3x32x32768.Idx := fun a => match a with
  | 0 => y 0
  | 1 => y 1
  | 2 => (⟨n % 32, Nat.mod_lt _ (by decide)⟩ : Fin 32)
  | 3 => y 2

/-- The products whose maximum result index `y` holds. -/
def pAt (y : S4x3x32768.Idx) (n : ℕ) : Ideal .f32 := FloatOps.mulf (A (ixA y)) (R (ixR y n))

theorem botf : (FloatOps.ofBits .f32 0xFF800000#32 : Ideal .f32) = (⊥ : EReal) := by
  show Ideal.ofBits .f32 0xFF800000#32 = ⊥
  simp [Ideal.ofBits, Ideal.ieee]

/-! ## The reference's results -/

/-- The reference's product at an index that drops to `y`. -/
theorem refP_eq (y : S4x3x32768.Idx) (i : S4x3x32x32768.Idx) (h0 : (i 0).val = (y 0).val) (h1 : (i 1).val = (y 1).val) (h3 : (i 3).val = (y 2).val) :
    Ref.refP A R i = pAt A R y (i 2).val := by
  have h2 : (i 2).val < 32 := (i 2).isLt
  let w : Cert.ReferenceIdeal.S4x1x1x32768.Idx := fun a => match a with
    | 0 => i 0
    | 1 => (0 : Fin 1)
    | 2 => (0 : Fin 1)
    | 3 => i 3
  have eA : broadcastInDim Cert.ReferenceIdeal.S4x3x32x32768 ![0, 1, 2, 3] Cert.ReferenceIdeal.Gen.bcast_S4x1x1x32768_S4x3x32x32768_0_1_2_3
      (broadcastInDim Cert.ReferenceIdeal.S4x1x1x32768 ![0, 3] Cert.ReferenceIdeal.Gen.bcast_S4x32768_S4x1x1x32768_0_3 A) i = A (ixA y) := by
    refine (broadcastInDim_apply _ _ _ i w fun a => ?_).trans (broadcastInDim_apply _ _ A w (ixA y) fun a => ?_)
    · match a with
      | 0 => rfl
      | 1 => rfl
      | 2 => rfl
      | 3 => rfl
    · match a with
      | 0 => exact h0.symm
      | 1 => exact h3.symm
  have eR : R i = R (ixR y (i 2).val) := congrArg R (funext fun a => Fin.ext (by
    match a with
    | 0 => exact h0
    | 1 => exact h1
    | 2 => exact (Nat.mod_eq_of_lt h2).symm
    | 3 => exact h3))
  exact congrArg₂ FloatOps.mulf eA eR

/-- The axis of 32 reduced away. -/
theorem redu : Cert.ReferenceIdeal.S4x3x32x32768.Reduces [2] Cert.ReferenceIdeal.S4x3x32768 := by decide

/-- The products along the reduced axis at result index `y`. -/
theorem refP_lift (y : S4x3x32768.Idx) (n : Fin 32) : Ref.refP A R (redu.lift y n) = pAt A R y n.val :=
  refP_eq A R y (redu.lift y n) rfl rfl rfl

variable {A R} in
/-- The reference's maximum. -/
theorem refX_eq (y : S4x3x32768.Idx) {v : Ideal .f32} {k : ℕ} (h : First (pAt A R y) v k) : Ref.refX A R y = v := by
  unfold Ref.refX
  rw [Host.reduce_eq_fold_single _ _ _ _ redu]
  refine Eq.trans ?_ h.fold_max
  show Finset.fold max (FloatOps.ofBits .f32 0xFF800000#32 : Ideal .f32) _ _ = _
  rw [botf]
  exact Finset.fold_congr fun n _ => refP_lift A R y n

/-- The pairs an arg-max over one axis folds over: one for each coordinate of the axis. -/
theorem mem_fiber {s t : Shape} {a : Fin s.rank} {α β : Type} (x : s.Idx → α) (w : s.Idx → β) (h' : s.ReducesTo [a] t) (h : s.Reduces [a] t)
    (j : t.Idx) (q : α × β) : q ∈ Host.argReduceFiber x w h' j ↔ ∃ k : Fin (s.size a), q = (x (h.lift j k), w (h.lift j k)) := by
  unfold Host.argReduceFiber
  simp only [List.mem_map, List.mem_filter, List.mem_finRange, true_and, decide_eq_true_eq]
  constructor
  · rintro ⟨n, hn, rfl⟩
    rw [Shape.ReducesTo.drop_eq_drop _ h] at hn
    exact ⟨s.rowMajor.symm n a, by rw [← hn, h.lift_drop]⟩
  · rintro ⟨k, rfl⟩
    exact ⟨s.rowMajor (h.lift j k), by rw [Equiv.symm_apply_apply, Shape.ReducesTo.drop_eq_drop _ h, h.drop_lift], by rw [Equiv.symm_apply_apply]⟩

/-- The index paired with the product at coordinate `n` of the reduced axis. -/
theorem iota_lift (y : S4x3x32768.Idx) (n : Fin 32) : iotaInDim Cert.ReferenceIdeal.S4x3x32x32768 32 2 (redu.lift y n) = BitVec.ofNat 32 n.val := rfl

/-- An arg-max over one axis of 32, of values whose first maximum is known, from the lowest number at index zero. -/
theorem argReduce_first {s t u : Shape} {a : Fin s.rank} (x : FVec Ideal s .f32) (w : IVec s 32) (ix : FVec Ideal u .f32) (iy : IVec u 32)
    (h' : s.ReducesTo [a] t) (h : s.Reduces [a] t) (hu : 0 < u.numel) (j : t.Idx) (hx : ix (Shape.Idx.first hu) = (⊥ : EReal))
    (hy : iy (Shape.Idx.first hu) = 0#32) (hs : s.size a = 32) {p : ℕ → Ideal .f32} {v : Ideal .f32} {k : ℕ} (hf : First p v k)
    (hp : ∀ n, x (h.lift j n) = p n.val) (hi : ∀ n, w (h.lift j n) = BitVec.ofNat 32 n.val) :
    Host.argReduce Cert.ReferenceIdeal.reducer_argmax_f32_i32 x w ix iy h' hu j = (v, BitVec.ofNat 32 k) := by
  rw [Ideal.argReduce_eq_reduce2, Host.reduce2_eq_foldl_fiber, hx, hy, hf.foldl]
  intro q
  rw [mem_fiber x w h' h]
  constructor
  · rintro ⟨n, rfl⟩
    exact ⟨n.val, by have := n.isLt; omega, Prod.ext (hp n) (hi n)⟩
  · rintro ⟨n, hn, rfl⟩
    exact ⟨⟨n, by omega⟩, (Prod.ext (hp ⟨n, by omega⟩) (hi ⟨n, by omega⟩)).symm⟩

/-- The starting pair of the arg-max: the lowest number, at index zero. -/
theorem cst_first : (constant Cert.ReferenceIdeal.S_ .f32 0xFF800000#32 : FVec Ideal _ _) (Shape.Idx.first Cert.ReferenceIdeal.Gen.h_S_) = (⊥ : EReal) := botf
theorem c_first : constantI Cert.ReferenceIdeal.S_ 32 0#32 (Shape.Idx.first Cert.ReferenceIdeal.Gen.h_S_) = 0#32 := rfl

variable {A R} in
/-- The reference's maximum with its place. -/
theorem refPair_eq (y : S4x3x32768.Idx) {v : Ideal .f32} {k : ℕ} (h : First (pAt A R y) v k) :
    Ref.refPair (F := Ideal) A R y = (v, BitVec.ofNat 32 k) := by
  unfold Ref.refPair
  exact argReduce_first _ _ _ _ _ redu _ y cst_first c_first rfl h (fun n => refP_lift A R y n) (fun n => iota_lift y n)

theorem refI_fn : Ref.refI (F := Ideal) A R = fun j => (Ref.refPair (F := Ideal) A R j).2 := by
  unfold Ref.refI; with_reducible rfl

/-- The second components of pairs. -/
theorem snd_at {ι α β : Type} (f : ι → α × β) (g : ι → β) (hg : g = fun j => (f j).2) (y : ι) {v : α} {k : β} (h : f y = (v, k)) : g y = k := by
  subst hg; exact congrArg Prod.snd h

variable {A R} in
/-- The reference's place of the maximum. -/
theorem refI_eq (y : S4x3x32768.Idx) {v : Ideal .f32} {k : ℕ} (h : First (pAt A R y) v k) : Ref.refI (F := Ideal) A R y = BitVec.ofNat 32 k :=
  snd_at (Ref.refPair (F := Ideal) A R) (Ref.refI (F := Ideal) A R) (refI_fn A R) y (refPair_eq y h)

end Cert.Proof.MaxIdx

end
-- ==== Proof.Lanes.lean ====
/-
  The lanes of one row block: what a task of the SparseCore call computes from a slot of its row buffer.
-/
module

public import proofs.«01_k».proof.Proof.Setup

@[expose] public section

noncomputable section

namespace Cert.Proof.MaxIdx

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev cV (L : grid0.Coords) : Fin τ.nSC := (L 0).castLE hcore0
abbrev jV (L : grid0.Coords) : Fin τ.nSub := (L 1).castLE hsub0
/-- The task's thread. -/
abbrev thr (d : Dev nD) (L : grid0.Coords) : Thread nD τ := V d (cV L) (jV L)

/-- The first of the task's 640 columns. -/
def col0 (L : grid0.Coords) : ℕ := 1280 * (L 1).val + 640 * (L 0).val

/-- The two slots of the row buffer, as the program addresses them. -/
abbrev slot0 : Memref sig .scVector .vmem S32x640 .f32 :=
  ((Memref.whole cc0_scratch1).slice (Rect.unit (s := S2x32x640) ![0, 0, 0] S1x32x640.size inb_S2x32x640_S1x32x640_0_0_0) (fun _ => rfl)).squeeze S32x640 squeezes_S1x32x640_S32x640
abbrev slot1 : Memref sig .scVector .vmem S32x640 .f32 :=
  ((Memref.whole cc0_scratch1).slice (Rect.unit (s := S2x32x640) ![1, 0, 0] S1x32x640.size inb_S2x32x640_S1x32x640_1_0_0) (fun _ => rfl)).squeeze S32x640 squeezes_S1x32x640_S32x640

variable (d : Dev nD) (L : grid0.Coords) (A : S4x32768.Idx → F .f32) (B : S384x32768.Idx → F .f32)

/-- The task's columns of the first argument, as they lie in its own memory. -/
def mVal : S4x640.Idx → F .f32 := fun y => fA A (y 0).val (col0 L + (y 1).val)
/-- Row block `g` of the task's columns of the reshaped second argument, in either slot. -/
def rVal (g : ℕ) : S2x32x640.Idx → F .f32 := fun y => fB B (32 * g + (y 1).val) (col0 L + (y 2).val)

/-- The first `n` results, counted row after row, are in place. -/
def Done (n : ℕ) (f : S4x3x640.Idx → F .f32) (e : S4x3x640.Idx → BitVec 32) : Prop :=
  ∀ y : S4x3x640.Idx, 640 * (3 * (y 0).val + (y 1).val) + (y 2).val < n →
    f y = maxAt A B (3 * (y 0).val + (y 1).val) (col0 L + (y 2).val) ∧ e y = idxAt A B (3 * (y 0).val + (y 1).val) (col0 L + (y 2).val)

/-- A slot of the row buffer at row block `g`. -/
def at0 (g : ℕ) : sProp 𝕄 := iprop((slot0).view.loc (thr d L) ↦[(slot0).view.set]{fullShare} rVal L B g)
def at1 (g : ℕ) : sProp 𝕄 := iprop((slot1).view.loc (thr d L) ↦[(slot1).view.set]{fullShare} rVal L B g)

/-- What a loop over the lanes holds: the columns of the first argument, a slot `R` of the row buffer, and the two result
    scratches with the first `n` results in place. -/
def lanes (n : ℕ) (R : sProp 𝕄) : sProp 𝕄 :=
  iprop(((Memref.whole cc0_scratch0).view.loc (thr d L) ↦{fullShare} mVal L A) ∗ R
    ∗ ∃ f e, ⌜Done L A B n f e⌝ ∗ ((Memref.whole cc0_scratch2).view.loc (thr d L) ↦{fullShare} f) ∗ ((Memref.whole cc0_scratch3).view.loc (thr d L) ↦{fullShare} e))

theorem off5_eq : ∀ (t1 : Fin k0_t1_loop.trips) (t2 : Fin k0_t2_loop.trips), k0_off5 t1 t2 = ![2 * t1.val / 3, 16 * t2.val] := by decide +kernel
theorem off38_eq : ∀ (t1 : Fin k0_t1_loop.trips) (t2 : Fin k0_t2_loop.trips), k0_off38 t1 t2 = ![2 * t1.val / 3, 2 * t1.val % 3, 16 * t2.val] := by decide +kernel
theorem off39_eq : ∀ (t1 : Fin k0_t1_loop.trips) (t3 : Fin k0_t3_loop.trips), k0_off39 t1 t3 = ![(2 * t1.val + 1) / 3, 16 * t3.val] := by decide +kernel
theorem off72_eq : ∀ (t1 : Fin k0_t1_loop.trips) (t3 : Fin k0_t3_loop.trips), k0_off72 t1 t3 = ![(2 * t1.val + 1) / 3, (2 * t1.val + 1) % 3, 16 * t3.val] := by decide +kernel

section
variable (t1 : Fin k0_t1_loop.trips) (O : CellTallies nD τ sig (HIx 1)) (W : Waits sig (HIx 1))

/-- The elements of the two slots, as rectangles of the row buffer. -/
theorem slot0_set : (slot0).view.set = (Rect.unit (s := S2x32x640) ![0, 0, 0] S1x32x640.size inb_S2x32x640_S1x32x640_0_0_0).set :=
  (View.set_reshape _ _).trans (View.set_slice_whole _ _)
theorem slot1_set : (slot1).view.set = (Rect.unit (s := S2x32x640) ![1, 0, 0] S1x32x640.size inb_S2x32x640_S1x32x640_1_0_0).set :=
  (View.set_reshape _ _).trans (View.set_slice_whole _ _)

/-- Sixteen lanes of a row of a slot lie among the slot's elements. -/
theorem sub_slot {o : Fin 3 → ℕ} {s n c : ℕ} (h : o = ![s, n, c]) (ho : ∀ a, o a + S1x1x16.size a ≤ S2x32x640.size a)
    (hs : ∀ a, (![s, 0, 0] : Fin 3 → ℕ) a + S1x32x640.size a ≤ S2x32x640.size a) :
    (Memref.whole cc0_scratch1).view.setOn (Rect.unit (s := S2x32x640) o S1x1x16.size ho).toLoadRect.set ⊆ (Rect.unit (s := S2x32x640) ![s, 0, 0] S1x32x640.size hs).set := by
  subst h
  intro y hy
  have hy' : y ∈ (Rect.unit (s := S2x32x640) ![s, n, c] S1x1x16.size ho).set := by
    obtain ⟨x, hx, rfl⟩ := Finset.mem_map.mp hy
    exact hx
  rw [Rect.mem_set_unit] at hy' ⊢
  intro a
  have h1 := (y 1).isLt
  have h2 := (y 2).isLt
  have h0 := hy' 0
  fin_cases a
  · exact h0
  · exact ⟨Nat.zero_le _, h1⟩
  · exact ⟨Nat.zero_le _, h2⟩

theorem sub0 {o : Fin 3 → ℕ} {n c : ℕ} (h : o = ![0, n, c]) (ho : ∀ a, o a + S1x1x16.size a ≤ S2x32x640.size a) :
    LE.le (α := Finset S2x32x640.Idx) ((Memref.whole cc0_scratch1).view.setOn (Rect.unit (s := S2x32x640) o S1x1x16.size ho).toLoadRect.set) (slot0).view.set := by
  rw [slot0_set]
  exact sub_slot h ho _
theorem sub1 {o : Fin 3 → ℕ} {n c : ℕ} (h : o = ![1, n, c]) (ho : ∀ a, o a + S1x1x16.size a ≤ S2x32x640.size a) :
    LE.le (α := Finset S2x32x640.Idx) ((Memref.whole cc0_scratch1).view.setOn (Rect.unit (s := S2x32x640) o S1x1x16.size ho).toLoadRect.set) (slot1).view.set := by
  rw [slot1_set]
  exact sub_slot h ho _

/-- Sixteen lanes of a row of a slot read as the argument's. -/
theorem readRow (g : ℕ) {o : Fin 3 → ℕ} {s n c : ℕ} (h : o = ![s, n, c]) (ho : ∀ a, o a + S1x1x16.size a ≤ S2x32x640.size a) :
    (Memref.whole cc0_scratch1).view.readAt (Elt F) (Rect.unit (s := S2x32x640) o S1x1x16.size ho).toLoadRect (rVal L B g)
      = fun j => fB B (32 * g + n) (col0 L + (c + (j 2).val)) := by
  subst h
  funext j
  have h1 : (j 1).val = 0 := by have := (j 1).isLt; change (j 1).val < 1 at this; omega
  show fB B (32 * g + (n + 1 * (j 1).val)) (col0 L + (c + 1 * (j 2).val)) = _
  rw [h1, Nat.mul_zero, Nat.add_zero, Nat.one_mul]

/-- Sixteen lanes of a row of the first argument's columns. -/
theorem readMix {o : Fin 2 → ℕ} {n c : ℕ} (h : o = ![n, c]) (ho : ∀ a, o a + S1x16.size a ≤ S4x640.size a) :
    (Memref.whole cc0_scratch0).view.readAt (Elt F) (Rect.unit (s := S4x640) o S1x16.size ho).toLoadRect (mVal L A)
      = fun j => fA A n (col0 L + (c + (j 1).val)) := by
  subst h
  funext j
  have h1 : (j 0).val = 0 := by have := (j 0).isLt; change (j 0).val < 1 at this; omega
  show fA A (n + 1 * (j 0).val) (col0 L + (c + 1 * (j 1).val)) = _
  rw [h1, Nat.mul_zero, Nat.add_zero, Nat.one_mul]

theorem cast_lane3 : ∀ k : S16.Idx, ((Shape.reshapeEquiv shapeCasts_S1x1x16_S16 k) 2).val = (k 0).val := by decide +kernel
theorem cast_lane2 : ∀ k : S16.Idx, ((Shape.reshapeEquiv shapeCasts_S1x16_S16 k) 1).val = (k 0).val := by decide +kernel
theorem cast_lane1 : ∀ k : S1x1x16.Idx, ((Shape.reshapeEquiv shapeCasts_S16_S1x1x16 k) 0).val = (k 2).val := by decide +kernel

/-- Sixteen lanes of a row of a slot, flattened. -/
theorem rowLane (g : ℕ) {o : Fin 3 → ℕ} {s n c : ℕ} (h : o = ![s, n, c]) (ho : ∀ a, o a + S1x1x16.size a ≤ S2x32x640.size a) :
    shapeCast S16 ((Memref.whole cc0_scratch1).view.readAt (Elt F) (Rect.unit (s := S2x32x640) o S1x1x16.size ho).toLoadRect (rVal L B g)) shapeCasts_S1x1x16_S16
      = fun k => fB B (32 * g + n) (col0 L + (c + (k 0).val)) :=
  funext fun k => (congrFun (readRow L B g h ho) _).trans (congrArg (fun x => fB B (32 * g + n) (col0 L + (c + x))) (cast_lane3 k))

/-- Sixteen lanes of a row of the first argument's columns, flattened. -/
theorem mixLane {o : Fin 2 → ℕ} {n c : ℕ} (h : o = ![n, c]) (ho : ∀ a, o a + S1x16.size a ≤ S4x640.size a) :
    shapeCast S16 ((Memref.whole cc0_scratch0).view.readAt (Elt F) (Rect.unit (s := S4x640) o S1x16.size ho).toLoadRect (mVal L A)) shapeCasts_S1x16_S16
      = fun k => fA A n (col0 L + (c + (k 0).val)) :=
  funext fun k => (congrFun (readMix L A h ho) _).trans (congrArg (fun x => fA A n (col0 L + (c + x))) (cast_lane2 k))

/-- Sixteen more results: what the two stores of a trip leave. -/
theorem Done.step {g c : ℕ} {f : S4x3x640.Idx → F .f32} {e : S4x3x640.Idx → BitVec 32} (hD : Done L A B (640 * g + c) f e)
    (hc : c + 16 ≤ 640) {o : Fin 3 → ℕ} (h : o = ![g / 3, g % 3, c]) (ho : ∀ a, o a + S1x1x16.size a ≤ S4x3x640.size a) :
    Done L A B (640 * g + c + 16)
      ((Memref.whole cc0_scratch2).view.writes (Elt F) f [⟨Rect.unit (s := S4x3x640) o S1x1x16.size ho,
        shapeCast S1x1x16 (fun k : S16.Idx => maxAt A B g (col0 L + (c + (k 0).val))) shapeCasts_S16_S1x1x16⟩])
      ((Memref.whole cc0_scratch3).view.writes (Elt F) e [⟨Rect.unit (s := S4x3x640) o S1x1x16.size ho,
        shapeCast S1x1x16 (fun k : S16.Idx => idxAt A B g (col0 L + (c + (k 0).val))) shapeCasts_S16_S1x1x16⟩]) := by
  subst h
  intro y hy
  by_cases hm : y ∈ (Rect.unit (s := S4x3x640) ![g / 3, g % 3, c] S1x1x16.size ho).set
  · rw [← Rect.map_emb_univ] at hm
    obtain ⟨x, -, rfl⟩ := Finset.mem_map.mp hm
    have x0 : (x 0).val = 0 := by have := (x 0).isLt; change (x 0).val < 1 at this; omega
    have x1 : (x 1).val = 0 := by have := (x 1).isLt; change (x 1).val < 1 at this; omega
    have e0 : ((Rect.unit (s := S4x3x640) ![g / 3, g % 3, c] S1x1x16.size ho).emb x 0).val = g / 3 + 1 * (x 0).val := rfl
    have e1 : ((Rect.unit (s := S4x3x640) ![g / 3, g % 3, c] S1x1x16.size ho).emb x 1).val = g % 3 + 1 * (x 1).val := rfl
    have e2 : ((Rect.unit (s := S4x3x640) ![g / 3, g % 3, c] S1x1x16.size ho).emb x 2).val = c + 1 * (x 2).val := rfl
    have hg : 3 * (g / 3 + 1 * (x 0).val) + (g % 3 + 1 * (x 1).val) = g := by omega
    rw [e0, e1, e2, hg, Nat.one_mul]
    refine ⟨?_, ?_⟩
    · refine (View.read_writes_cons_emb (Val := Elt F) (Memref.whole cc0_scratch2).view f _ _ [] x).trans ?_
      exact congrArg (fun k => maxAt A B g (col0 L + (c + k))) (cast_lane1 x)
    · refine (View.read_writes_cons_emb (Val := Elt F) (Memref.whole cc0_scratch3).view e _ _ [] x).trans ?_
      exact congrArg (fun k => idxAt A B g (col0 L + (c + k))) (cast_lane1 x)
  · have hlt : 640 * (3 * (y 0).val + (y 1).val) + (y 2).val < 640 * g + c := by
      by_contra hn
      refine hm (Rect.mem_set_unit.mpr fun a => ?_)
      have y0 := (y 0).isLt
      have y1 := (y 1).isLt
      have y2 := (y 2).isLt
      change (y 0).val < 4 at y0
      change (y 1).val < 3 at y1
      change (y 2).val < 640 at y2
      fin_cases a
      · show g / 3 ≤ (y 0).val ∧ (y 0).val < g / 3 + 1
        omega
      · show g % 3 ≤ (y 1).val ∧ (y 1).val < g % 3 + 1
        omega
      · show c ≤ (y 2).val ∧ (y 2).val < c + 16
        omega
    obtain ⟨hf, he⟩ := hD y hlt
    refine ⟨?_, ?_⟩
    · exact (View.read_writes_cons_miss (Val := Elt F) (Memref.whole cc0_scratch2).view f ⟨Rect.unit (s := S4x3x640) ![g / 3, g % 3, c] S1x1x16.size ho, _⟩ [] y hm).trans hf
    · exact (View.read_writes_cons_miss (Val := Elt F) (Memref.whole cc0_scratch3).view e ⟨Rect.unit (s := S4x3x640) ![g / 3, g % 3, c] S1x1x16.size ho, _⟩ [] y hm).trans he

set_option maxHeartbeats 4000000 in
/-- A trip of the first slot's loop over the lanes. -/
theorem lane0 (v25 v27 v44 : BitVec 32) (v55 : BitVec 1) (v56 c v60 : BitVec 32) (t2 : Fin k0_t2_loop.trips) :
    lanes d L A B (640 * (2 * t1.val) + 16 * t2.val) (at0 d L B (2 * t1.val))
      ⊢ wp frame (wpE (defs₀ (F := F)) 𝒱₀ (thr d L) none) Set.univ
          (k0_t2_body L (Memref.whole main_arg0_scv) (Memref.isWhole_whole _) (Memref.whole main_v0_scv) (Memref.isWhole_whole _) (Memref.whole main_v1_0_scv) (Memref.isWhole_whole _) (Memref.whole main_v1_1_scv) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scratch4 cc0_scratch5 cc0_scratch6 cc0_scratch7 cc0_scoped0 t1 v25 v27 v44 v55 v56 c v60 t2 ())
          fun _ => lanes d L A B (640 * (2 * t1.val) + 16 * t2.val + 16) (at0 d L B (2 * t1.val)) := by
  have h6 := sub0 (k0_off6_eq t2) (k0_off6_inb t2)
  have h7 := sub0 (k0_off7_eq t2) (k0_off7_inb t2)
  have h8 := sub0 (k0_off8_eq t2) (k0_off8_inb t2)
  have h9 := sub0 (k0_off9_eq t2) (k0_off9_inb t2)
  have h10 := sub0 (k0_off10_eq t2) (k0_off10_inb t2)
  have h11 := sub0 (k0_off11_eq t2) (k0_off11_inb t2)
  have h12 := sub0 (k0_off12_eq t2) (k0_off12_inb t2)
  have h13 := sub0 (k0_off13_eq t2) (k0_off13_inb t2)
  have h14 := sub0 (k0_off14_eq t2) (k0_off14_inb t2)
  have h15 := sub0 (k0_off15_eq t2) (k0_off15_inb t2)
  have h16 := sub0 (k0_off16_eq t2) (k0_off16_inb t2)
  have h17 := sub0 (k0_off17_eq t2) (k0_off17_inb t2)
  have h18 := sub0 (k0_off18_eq t2) (k0_off18_inb t2)
  have h19 := sub0 (k0_off19_eq t2) (k0_off19_inb t2)
  have h20 := sub0 (k0_off20_eq t2) (k0_off20_inb t2)
  have h21 := sub0 (k0_off21_eq t2) (k0_off21_inb t2)
  have h22 := sub0 (k0_off22_eq t2) (k0_off22_inb t2)
  have h23 := sub0 (k0_off23_eq t2) (k0_off23_inb t2)
  have h24 := sub0 (k0_off24_eq t2) (k0_off24_inb t2)
  have h25 := sub0 (k0_off25_eq t2) (k0_off25_inb t2)
  have h26 := sub0 (k0_off26_eq t2) (k0_off26_inb t2)
  have h27 := sub0 (k0_off27_eq t2) (k0_off27_inb t2)
  have h28 := sub0 (k0_off28_eq t2) (k0_off28_inb t2)
  have h29 := sub0 (k0_off29_eq t2) (k0_off29_inb t2)
  have h30 := sub0 (k0_off30_eq t2) (k0_off30_inb t2)
  have h31 := sub0 (k0_off31_eq t2) (k0_off31_inb t2)
  have h32 := sub0 (k0_off32_eq t2) (k0_off32_inb t2)
  have h33 := sub0 (k0_off33_eq t2) (k0_off33_inb t2)
  have h34 := sub0 (k0_off34_eq t2) (k0_off34_inb t2)
  have h35 := sub0 (k0_off35_eq t2) (k0_off35_inb t2)
  have h36 := sub0 (k0_off36_eq t2) (k0_off36_inb t2)
  have h37 := sub0 (k0_off37_eq t2) (k0_off37_inb t2)
  unfold lanes at0 k0_t2_body
  iintro ⟨Hm, Hr, %f, %e, %hD, Hx, Hi⟩
  sl_exec
  have hx : k0_pay147 (lane0.sl.r_17 L A B t1 t2) (lane0.sl.r_18 L A B t1 t2)
        = shapeCast S1x1x16 (fun k : S16.Idx => maxAt A B (2 * t1.val) (col0 L + (16 * t2.val + (k 0).val))) shapeCasts_S16_S1x1x16
      ∧ k0_pay148 (lane0.sl.r_16 L A B t1 t2) (lane0.sl.r_19 L A B t1 t2)
        = shapeCast S1x1x16 (fun k : S16.Idx => idxAt A B (2 * t1.val) (col0 L + (16 * t2.val + (k 0).val))) shapeCasts_S16_S1x1x16 := by
    delta
      lane0.sl.r lane0.sl.r_1 lane0.sl.r_2 lane0.sl.r_3 lane0.sl.r_4 lane0.sl.r_5 lane0.sl.r_6 lane0.sl.r_7 lane0.sl.r_8 lane0.sl.r_9
      lane0.sl.r_10 lane0.sl.r_11 lane0.sl.r_12 lane0.sl.r_13 lane0.sl.r_14 lane0.sl.r_15 lane0.sl.r_16 lane0.sl.r_17 lane0.sl.r_18
      lane0.sl.r_19 lane0.sl.v112 lane0.sl.v119 lane0.sl.v129 lane0.sl.v139 lane0.sl.v149 lane0.sl.v159 lane0.sl.v169 lane0.sl.v179
      lane0.sl.v189 lane0.sl.v199 lane0.sl.v209 lane0.sl.v219 lane0.sl.v229 lane0.sl.v239 lane0.sl.v249 lane0.sl.v259 lane0.sl.v269
      lane0.sl.v279 lane0.sl.v289 lane0.sl.v299 lane0.sl.v309 lane0.sl.v319 lane0.sl.v329 lane0.sl.v339 lane0.sl.v349 lane0.sl.v359
      lane0.sl.v369 lane0.sl.v379 lane0.sl.v389 lane0.sl.v399 lane0.sl.v409 lane0.sl.v419
    simp only [
      k0_pay1, k0_pay2, k0_pay3, k0_pay4, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25, k0_pay26, k0_pay27,
      k0_pay28, k0_pay29, k0_pay30, k0_pay31, k0_pay32, k0_pay33, k0_pay34, k0_pay35, k0_pay36, k0_pay37, k0_pay38, k0_pay39, k0_pay40,
      k0_pay41, k0_pay42, k0_pay43, k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay147, k0_pay148, rowLane L B _ (k0_off6_eq t2),
      rowLane L B _ (k0_off7_eq t2), rowLane L B _ (k0_off8_eq t2), rowLane L B _ (k0_off9_eq t2), rowLane L B _ (k0_off10_eq t2),
      rowLane L B _ (k0_off11_eq t2), rowLane L B _ (k0_off12_eq t2), rowLane L B _ (k0_off13_eq t2), rowLane L B _ (k0_off14_eq t2),
      rowLane L B _ (k0_off15_eq t2), rowLane L B _ (k0_off16_eq t2), rowLane L B _ (k0_off17_eq t2), rowLane L B _ (k0_off18_eq t2),
      rowLane L B _ (k0_off19_eq t2), rowLane L B _ (k0_off20_eq t2), rowLane L B _ (k0_off21_eq t2), rowLane L B _ (k0_off22_eq t2),
      rowLane L B _ (k0_off23_eq t2), rowLane L B _ (k0_off24_eq t2), rowLane L B _ (k0_off25_eq t2), rowLane L B _ (k0_off26_eq t2),
      rowLane L B _ (k0_off27_eq t2), rowLane L B _ (k0_off28_eq t2), rowLane L B _ (k0_off29_eq t2), rowLane L B _ (k0_off30_eq t2),
      rowLane L B _ (k0_off31_eq t2), rowLane L B _ (k0_off32_eq t2), rowLane L B _ (k0_off33_eq t2), rowLane L B _ (k0_off34_eq t2),
      rowLane L B _ (k0_off35_eq t2), rowLane L B _ (k0_off36_eq t2), rowLane L B _ (k0_off37_eq t2), mixLane L A (off5_eq t1 t2)]
    exact ⟨rfl, rfl⟩
  have ht : t2.val < 40 := lt_of_lt_of_le t2.isLt (by decide)
  have hS := Done.step L A B hD (by omega) (off38_eq t1 t2) (k0_off38_inb t1 t2)
  rw [← hx.1, ← hx.2] at hS
  sl_step
  isplitl [Hm]
  · iexact Hm
  isplitl [Hr]
  · iexact Hr
  iexists (Memref.whole cc0_scratch2).view.writes (Elt F) f [⟨Rect.unit (k0_off38 t1 t2) S1x1x16.size (k0_off38_inb t1 t2), k0_pay147 (lane0.sl.r_17 L A B t1 t2) (lane0.sl.r_18 L A B t1 t2)⟩],
    (Memref.whole cc0_scratch3).view.writes (Elt F) e [⟨Rect.unit (k0_off38 t1 t2) S1x1x16.size (k0_off38_inb t1 t2), k0_pay148 (lane0.sl.r_16 L A B t1 t2) (lane0.sl.r_19 L A B t1 t2)⟩]
  isplitr
  · ipureintro
    exact hS
  isplitl [Hx]
  · iexact Hx
  iexact Hi

/-- A trip of the second slot's loop over the lanes. -/
theorem lane1 (v98 : BitVec 32) (t3 : Fin k0_t3_loop.trips) :
    lanes d L A B (640 * (2 * t1.val + 1) + 16 * t3.val) (at1 d L B (2 * t1.val + 1))
      ⊢ wp frame (wpE (defs₀ (F := F)) 𝒱₀ (thr d L) none) Set.univ
          (k0_t3_body L (Memref.whole main_arg0_scv) (Memref.isWhole_whole _) (Memref.whole main_v0_scv) (Memref.isWhole_whole _) (Memref.whole main_v1_0_scv) (Memref.isWhole_whole _) (Memref.whole main_v1_1_scv) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scratch4 cc0_scratch5 cc0_scratch6 cc0_scratch7 cc0_scoped0 t1 v98 t3 ())
          fun _ => lanes d L A B (640 * (2 * t1.val + 1) + 16 * t3.val + 16) (at1 d L B (2 * t1.val + 1)) := by
  have h40 := sub1 (k0_off40_eq t3) (k0_off40_inb t3)
  have h41 := sub1 (k0_off41_eq t3) (k0_off41_inb t3)
  have h42 := sub1 (k0_off42_eq t3) (k0_off42_inb t3)
  have h43 := sub1 (k0_off43_eq t3) (k0_off43_inb t3)
  have h44 := sub1 (k0_off44_eq t3) (k0_off44_inb t3)
  have h45 := sub1 (k0_off45_eq t3) (k0_off45_inb t3)
  have h46 := sub1 (k0_off46_eq t3) (k0_off46_inb t3)
  have h47 := sub1 (k0_off47_eq t3) (k0_off47_inb t3)
  have h48 := sub1 (k0_off48_eq t3) (k0_off48_inb t3)
  have h49 := sub1 (k0_off49_eq t3) (k0_off49_inb t3)
  have h50 := sub1 (k0_off50_eq t3) (k0_off50_inb t3)
  have h51 := sub1 (k0_off51_eq t3) (k0_off51_inb t3)
  have h52 := sub1 (k0_off52_eq t3) (k0_off52_inb t3)
  have h53 := sub1 (k0_off53_eq t3) (k0_off53_inb t3)
  have h54 := sub1 (k0_off54_eq t3) (k0_off54_inb t3)
  have h55 := sub1 (k0_off55_eq t3) (k0_off55_inb t3)
  have h56 := sub1 (k0_off56_eq t3) (k0_off56_inb t3)
  have h57 := sub1 (k0_off57_eq t3) (k0_off57_inb t3)
  have h58 := sub1 (k0_off58_eq t3) (k0_off58_inb t3)
  have h59 := sub1 (k0_off59_eq t3) (k0_off59_inb t3)
  have h60 := sub1 (k0_off60_eq t3) (k0_off60_inb t3)
  have h61 := sub1 (k0_off61_eq t3) (k0_off61_inb t3)
  have h62 := sub1 (k0_off62_eq t3) (k0_off62_inb t3)
  have h63 := sub1 (k0_off63_eq t3) (k0_off63_inb t3)
  have h64 := sub1 (k0_off64_eq t3) (k0_off64_inb t3)
  have h65 := sub1 (k0_off65_eq t3) (k0_off65_inb t3)
  have h66 := sub1 (k0_off66_eq t3) (k0_off66_inb t3)
  have h67 := sub1 (k0_off67_eq t3) (k0_off67_inb t3)
  have h68 := sub1 (k0_off68_eq t3) (k0_off68_inb t3)
  have h69 := sub1 (k0_off69_eq t3) (k0_off69_inb t3)
  have h70 := sub1 (k0_off70_eq t3) (k0_off70_inb t3)
  have h71 := sub1 (k0_off71_eq t3) (k0_off71_inb t3)
  unfold lanes at1 k0_t3_body
  iintro ⟨Hm, Hr, %f, %e, %hD, Hx, Hi⟩
  sl_exec
  have hx : k0_pay149 (lane1.sl.r_17 L A B t1 t3) (lane1.sl.r_18 L A B t1 t3)
        = shapeCast S1x1x16 (fun k : S16.Idx => maxAt A B (2 * t1.val + 1) (col0 L + (16 * t3.val + (k 0).val))) shapeCasts_S16_S1x1x16
      ∧ k0_pay150 (lane1.sl.r_16 L A B t1 t3) (lane1.sl.r_19 L A B t1 t3)
        = shapeCast S1x1x16 (fun k : S16.Idx => idxAt A B (2 * t1.val + 1) (col0 L + (16 * t3.val + (k 0).val))) shapeCasts_S16_S1x1x16 := by
    delta
      lane1.sl.r lane1.sl.r_1 lane1.sl.r_2 lane1.sl.r_3 lane1.sl.r_4 lane1.sl.r_5 lane1.sl.r_6 lane1.sl.r_7 lane1.sl.r_8 lane1.sl.r_9
      lane1.sl.r_10 lane1.sl.r_11 lane1.sl.r_12 lane1.sl.r_13 lane1.sl.r_14 lane1.sl.r_15 lane1.sl.r_16 lane1.sl.r_17 lane1.sl.r_18
      lane1.sl.r_19 lane1.sl.v112 lane1.sl.v119 lane1.sl.v129 lane1.sl.v139 lane1.sl.v149 lane1.sl.v159 lane1.sl.v169 lane1.sl.v179
      lane1.sl.v189 lane1.sl.v199 lane1.sl.v209 lane1.sl.v219 lane1.sl.v229 lane1.sl.v239 lane1.sl.v249 lane1.sl.v259 lane1.sl.v269
      lane1.sl.v279 lane1.sl.v289 lane1.sl.v299 lane1.sl.v309 lane1.sl.v319 lane1.sl.v329 lane1.sl.v339 lane1.sl.v349 lane1.sl.v359
      lane1.sl.v369 lane1.sl.v379 lane1.sl.v389 lane1.sl.v399 lane1.sl.v409 lane1.sl.v419
    simp only [
      k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99,
      k0_pay100, k0_pay101, k0_pay102, k0_pay103, k0_pay104, k0_pay105, k0_pay106, k0_pay107, k0_pay108, k0_pay109, k0_pay110, k0_pay111,
      k0_pay112, k0_pay113, k0_pay114, k0_pay115, k0_pay116, k0_pay117, k0_pay118, k0_pay119, k0_pay120, k0_pay121, k0_pay122, k0_pay123,
      k0_pay124, k0_pay125, k0_pay126, k0_pay127, k0_pay128, k0_pay129, k0_pay130, k0_pay131, k0_pay132, k0_pay133, k0_pay134, k0_pay135,
      k0_pay136, k0_pay137, k0_pay138, k0_pay139, k0_pay140, k0_pay141, k0_pay142, k0_pay143, k0_pay144, k0_pay145, k0_pay146, k0_pay149,
      k0_pay150, rowLane L B _ (k0_off40_eq t3), rowLane L B _ (k0_off41_eq t3), rowLane L B _ (k0_off42_eq t3),
      rowLane L B _ (k0_off43_eq t3), rowLane L B _ (k0_off44_eq t3), rowLane L B _ (k0_off45_eq t3), rowLane L B _ (k0_off46_eq t3),
      rowLane L B _ (k0_off47_eq t3), rowLane L B _ (k0_off48_eq t3), rowLane L B _ (k0_off49_eq t3), rowLane L B _ (k0_off50_eq t3),
      rowLane L B _ (k0_off51_eq t3), rowLane L B _ (k0_off52_eq t3), rowLane L B _ (k0_off53_eq t3), rowLane L B _ (k0_off54_eq t3),
      rowLane L B _ (k0_off55_eq t3), rowLane L B _ (k0_off56_eq t3), rowLane L B _ (k0_off57_eq t3), rowLane L B _ (k0_off58_eq t3),
      rowLane L B _ (k0_off59_eq t3), rowLane L B _ (k0_off60_eq t3), rowLane L B _ (k0_off61_eq t3), rowLane L B _ (k0_off62_eq t3),
      rowLane L B _ (k0_off63_eq t3), rowLane L B _ (k0_off64_eq t3), rowLane L B _ (k0_off65_eq t3), rowLane L B _ (k0_off66_eq t3),
      rowLane L B _ (k0_off67_eq t3), rowLane L B _ (k0_off68_eq t3), rowLane L B _ (k0_off69_eq t3), rowLane L B _ (k0_off70_eq t3),
      rowLane L B _ (k0_off71_eq t3), mixLane L A (off39_eq t1 t3)]
    exact ⟨rfl, rfl⟩
  have ht : t3.val < 40 := lt_of_lt_of_le t3.isLt (by decide)
  have hS := Done.step L A B hD (by omega) (off72_eq t1 t3) (k0_off72_inb t1 t3)
  rw [← hx.1, ← hx.2] at hS
  sl_step
  isplitl [Hm]
  · iexact Hm
  isplitl [Hr]
  · iexact Hr
  iexists (Memref.whole cc0_scratch2).view.writes (Elt F) f [⟨Rect.unit (k0_off72 t1 t3) S1x1x16.size (k0_off72_inb t1 t3), k0_pay149 (lane1.sl.r_17 L A B t1 t3) (lane1.sl.r_18 L A B t1 t3)⟩],
    (Memref.whole cc0_scratch3).view.writes (Elt F) e [⟨Rect.unit (k0_off72 t1 t3) S1x1x16.size (k0_off72_inb t1 t3), k0_pay150 (lane1.sl.r_16 L A B t1 t3) (lane1.sl.r_19 L A B t1 t3)⟩]
  isplitr
  · ipureintro
    exact hS
  isplitl [Hx]
  · iexact Hx
  iexact Hi

end

end Cert.Proof.MaxIdx

end
-- ==== Proof.Tile.lean ====
/-
  One task of the SparseCore call: thirty-two of them, each over 640 columns.
-/
module

public import proofs.«01_k».proof.Proof.Lanes

@[expose] public section

noncomputable section

namespace Cert.Proof.MaxIdx

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (A : S4x32768.Idx → F .f32) (B : S384x32768.Idx → F .f32)

/-- A read share of the reshaped second argument, as a task addresses it. -/
def srcAt (q : PosShare TreeShare) : sProp 𝕄 := iprop((Memref.whole main_v0_scv).view.loc (thr d L) ↦{q} B)

/-- A local copy under way may carry anything else along with what it delivers. -/
theorem flight_frame {c : Thread nD τ} {sm : SemLoc sig} {N : ℕ} {X R : sProp 𝕄} :
    iprop(Transfers.Flight (countersEmb (U := UU)) c sm none N X ∗ R)
      ⊢ (Transfers.Flight (countersEmb (U := UU)) c sm none N iprop(X ∗ R) : sProp 𝕄) := by
  unfold Transfers.Flight
  iintro ⟨⟨⟨%R0, HR0, %hcap, %hpeek⟩, Hcred⟩, HR⟩
  isplitl [HR0 HR]
  · iexists iprop(R0 ∗ R)
    isplitl [HR0 HR]
    · isplitl [HR0] <;> iassumption
    isplit
    · ipureintro
      intro K
      refine BIBase.Entails.trans ?_ (hcap K)
      iintro ⟨⟨HR0, HR⟩, HK⟩
      isplitl [HR0]; · iexact HR0
      iintro ⟨Hv, HX⟩
      iapply HK
      isplitl [Hv]; · iexact Hv
      isplitl [HX] <;> iassumption
    · ipureintro
      intro K
      refine BIBase.Entails.trans ?_ (hpeek K)
      iintro ⟨⟨HR0, HR⟩, HK⟩
      isplitl [HR0]; · iexact HR0
      iintro HR0
      iapply HK
      isplitl [HR0] <;> iassumption
  iexact Hcred

/-- The start of a copy of row block `g` of the task's columns into a memref `dst`: the copy under way, which will deliver
    the memref at contents `fv` that read as the row block, and the share of the source it reads from. -/
theorem start {dst : Memref sig .scVector .vmem S32x640 .f32} {sem : DmaSem sig} {o : Fin 2 → ℕ} {g : ℕ} (ho : o = ![32 * g, col0 L])
    (hin : ∀ a, o a + S32x640.size a ≤ S384x32768.size a) {fv fd : Buf (Elt F) (dst.view.loc (thr d L))}
    (hv : ∀ y, dst.view.read (Elt F) fv y = fB B (32 * g + (y 0).val) (col0 L + (y 1).val))
    {q : PosShare TreeShare} {N : ℕ} (hN : dst.view.amount (.dma sem) = N) {α : Type}
    {h1 : ((Memref.whole main_v0_scv).slice (Rect.unit (s := S384x32768) o S32x640.size hin) (fun _ => rfl)).view.WordExact} {h2 : dst.view.WordExact}
    {h3 : DmaTarget.Typed (nD := nD) (Space.hbm) (SemLoc.dma sem) (DmaTarget.here (p := Proc.scVector (cV L) (jV L)) dst)}
    {k : PUnit → Prog (TpuEff nD τ sig (Elt F) Λ₀ (.scVector (cV L) (jV L))) α} {Q : α → sProp 𝕄} :
    iprop(srcAt d L B q ∗ (dst.view.loc (thr d L) ↦[dst.view.set]{fullShare} fd) ∗ semVal (thr d L, SemLoc.dma sem) 0)
      ⊢ iprop((Transfers.Flight (countersEmb (U := UU)) (thr d L) (.dma sem) none N
              iprop((dst.view.loc (thr d L) ↦[dst.view.set]{fullShare} fv) ∗ (Memref.whole main_v0_scv).view.loc (thr d L) ↦{q} B)
            -∗ wp frame (wpE (defs₀ (F := F)) 𝒱₀ (thr d L) none) Set.univ (k ⟨⟩) Q)
          -∗ wp frame (wpE (defs₀ (F := F)) 𝒱₀ (thr d L) none) Set.univ
              (.op (.enqueueDmaAs ((Memref.whole main_v0_scv).slice (Rect.unit (s := S384x32768) o S32x640.size hin) (fun _ => rfl)) (.here dst) .same (.dma sem) h1 h2 h3) k) Q) := by
  subst ho
  unfold srcAt
  iintro ⟨Hs, Hd, Hv⟩ Hk
  ihave Hs' := (pointsTo_split_subset (Finset.subset_univ ((Memref.whole main_v0_scv).slice (Rect.unit (s := S384x32768) ![32 * g, col0 L] S32x640.size hin) (fun _ => rfl)).view.set)).1 $$ Hs
  icases Hs' with ⟨Hs, Hrest⟩
  iapply (Transfers.wp_dmaLocal (countersEmb (U := UU)) 𝒱₀ (thr d L) none none N hN
    (hN ▸ View.amount_pos _ _ (show 0 < S32x640.numel by decide)) (Finset.Subset.refl _)) $$ [Hs Hd Hv]
  · isplitl [Hs]; · iexact Hs
    isplitl [Hd] <;> iassumption
  iintro Hf
  iapply Hk
  ihave Hf := flight_frame $$ [Hf Hrest]
  · isplitl [Hf]; · iexact Hf
    iexact Hrest
  iapply (Transfers.Flight_mono (countersEmb (U := UU)) (thr d L) ?_) $$ Hf
  iintro ⟨⟨Hd, Hs⟩, Hrest⟩
  isplitl [Hd]
  · iapply (Entails.of_eq (pointsTo_congr ?_)) $$ Hd
    intro i hi
    obtain ⟨y, -, rfl⟩ := Finset.mem_map.mp hi
    have e : dst.view.read (Elt F) (dst.view.write (Elt F) fd ((ReadAs.same (s := S32x640) (e := .f32)).apply
        (((Memref.whole main_v0_scv).slice (Rect.unit (s := S384x32768) ![32 * g, col0 L] S32x640.size hin) (fun _ => rfl)).view.read (Elt F) B)) Finset.univ) y
        = dst.view.read (Elt F) fv y := by
      rw [View.read_write_of_mem _ _ (Finset.mem_univ y), hv y, ReadAs.apply_same]
      refine fB_eq B _ _ _ ?_ ?_
      · show 32 * g + 1 * (y 0).val = _
        rw [Nat.one_mul]
      · show col0 L + 1 * (y 1).val = _
        rw [Nat.one_mul]
    rw [View.read_apply, View.read_apply] at e
    exact (cast_inj _).mp e
  iapply (pointsTo_split_subset (Finset.subset_univ _)).2
  isplitl [Hs] <;> iassumption

/-- What the loop over the row blocks holds before trip `t`: row block `2 t` on its way into the first slot, the second slot
    at anything, the source's other share, the task's columns of the first argument, and the results of the first `2 t` blocks. -/
def inv (q q' : PosShare TreeShare) (O : CellTallies nD τ sig (HIx 1)) (W : Waits sig (HIx 1)) (t : ℕ) : sProp 𝕄 :=
  iprop(Transfers.MayWaits (thr d L) (none : HIx 1) O
    ∗ Transfers.Flight (countersEmb (U := UU)) (thr d L) (.dma cc0_scratch4.sem) none ((slot0).view.dmaCredit)
        iprop(((slot0).view.loc (thr d L) ↦[(slot0).view.set]{fullShare} rVal L B (min (2 * t) 11)) ∗ (Memref.whole main_v0_scv).view.loc (thr d L) ↦{q} B)
    ∗ (∃ f, (slot1).view.loc (thr d L) ↦[(slot1).view.set]{fullShare} f) ∗ srcAt d L B q'
    ∗ semVal (thr d L, SemLoc.dma cc0_scratch5.sem) 0
    ∗ lanes d L A B (640 * (2 * t)) iprop(emp)
    ∗ ∃ W', ⌜∀ p ∈ W', p ∈ W ∨ p.2 = none⌝ ∗ owes (thr d L) O W')

/-- A slot's contents, read through the slot. -/
theorem read_slot0 (g : ℕ) (y : S32x640.Idx) :
    (slot0).view.read (Elt F) (rVal L B g) y = fB B (32 * g + (y 0).val) (col0 L + (y 1).val) := by
  have e : Shape.reshapeEquiv (s := S1x32x640) (s' := S32x640) squeezes_S1x32x640_S32x640.numel_eq y = Fin.cons ⟨0, Nat.one_pos⟩ y :=
    Shape.reshapeEquiv_cons_one (d := ![32, 640]) _ y
  show fB B (32 * g + (0 + 1 * (Shape.reshapeEquiv (s := S1x32x640) (s' := S32x640) squeezes_S1x32x640_S32x640.numel_eq y 1).val))
    (col0 L + (0 + 1 * (Shape.reshapeEquiv (s := S1x32x640) (s' := S32x640) squeezes_S1x32x640_S32x640.numel_eq y 2).val)) = _
  rw [e, Nat.one_mul, Nat.one_mul, Nat.zero_add, Nat.zero_add]
  rfl
theorem read_slot1 (g : ℕ) (y : S32x640.Idx) :
    (slot1).view.read (Elt F) (rVal L B g) y = fB B (32 * g + (y 0).val) (col0 L + (y 1).val) := read_slot0 L B g y

/-- A wait at the level of the copies adds nothing else to what has been waited for. -/
theorem landed {W W' : Waits sig (HIx 1)} {sm : SemLoc sig} (h : ∀ p ∈ W', p ∈ W ∨ p.2 = none) :
    ∀ p ∈ insert (sm, none) W', p ∈ W ∨ p.2 = none := by
  intro p hp
  rcases Finset.mem_insert.1 hp with rfl | hp
  · exact .inr rfl
  · exact h p hp

/-- A loop over the lanes gives its slot back. -/
theorem lanes_out {n n' : ℕ} (h : n = n') {R : sProp 𝕄} : lanes d L A B n R ⊢ iprop(R ∗ lanes d L A B n' iprop(emp)) := by
  subst h
  unfold lanes
  iintro ⟨Hm, HR, H⟩
  isplitl [HR]; · iexact HR
  isplitl [Hm]; · iexact Hm
  isplitr; · iempintro
  iexact H

set_option maxHeartbeats 1000000 in
theorem trip (q q' : PosShare TreeShare) (O : CellTallies nD τ sig (HIx 1)) (W : Waits sig (HIx 1)) (t1 : Fin k0_t1_loop.trips) :
    inv d L A B q q' O W t1.val
      ⊢ wp frame (wpE (defs₀ (F := F)) 𝒱₀ (thr d L) none) Set.univ
          (k0_t1_body L (Memref.whole main_arg0_scv) (Memref.isWhole_whole _) (Memref.whole main_v0_scv) (Memref.isWhole_whole _) (Memref.whole main_v1_0_scv) (Memref.isWhole_whole _) (Memref.whole main_v1_1_scv) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scratch4 cc0_scratch5 cc0_scratch6 cc0_scratch7 cc0_scoped0 t1 ())
          fun _ => inv d L A B q q' O W (t1.val + 1) := by
  unfold inv k0_t1_body
  iintro ⟨#Hmw, Hf, ⟨%f1, H1⟩, Hs, Hv5, HL, %W', %hW', HO⟩
  have ht : t1.val < 6 := lt_of_lt_of_le t1.isLt (by decide)
  have o3 : k0_off3 L t1 0#32 = ![32 * (2 * t1.val + 1), col0 L] :=
    (k0_off3_eq L t1 0).trans (by rw [show min (2 * t1.val + (0 : Fin 2).val + 1) 11 = 2 * t1.val + 1 from by simp; omega]; rfl)
  have o3' : k0_off3 L t1 1#32 = ![32 * min (2 * (t1.val + 1)) 11, col0 L] := k0_off3_eq L t1 1
  rw [show min (2 * t1.val) 11 = 2 * t1.val from by omega]
  sl_exec
  iapply (start d L B o3 _ (read_slot1 L B (2 * t1.val + 1)) rfl) $$ [Hs H1 Hv5]
  · isplitl [Hs]; · iexact Hs
    isplitl [H1]; · iexact H1
    iexact Hv5
  iintro Hf1
  sl_exec
  sl_for (fun j _ => lanes d L A B (640 * (2 * t1.val) + 16 * j) (at0 d L B (2 * t1.val))) $$ [HL Hf_dst]
  case region =>
    intro j _
    exact lane0 d L A B t1 _ _ _ _ _ _ _ j
  · unfold lanes at0
    icases HL with ⟨Hm, -, HL⟩
    isplitl [Hm]; · iexact Hm
    isplitl [Hf_dst]; · iexact Hf_dst
    iexact HL
  iintro %_ HL
  ihave HL' := (lanes_out d L A B (show _ = 640 * (2 * t1.val + 1) by rw [show Scf.trips k0_t2_loop.lb k0_t2_loop.ub k0_t2_loop.st = 40 by decide]; omega)) $$ HL
  icases HL' with ⟨H0, HL⟩
  ihave Hs0 := (show ((Memref.whole main_v0_scv).view.loc (thr d L) ↦{q} B : sProp 𝕄) ⊢ srcAt d L B q from Entails.rfl) $$ Hf_src
  sl_exec
  unfold at0
  iapply (start d L B o3' _ (read_slot0 L B (min (2 * (t1.val + 1)) 11)) rfl) $$ [Hs0 H0 Hf]
  · isplitl [Hs0]; · iexact Hs0
    isplitl [H0]; · iexact H0
    iexact Hf
  iintro Hf0
  sl_exec
  sl_for (fun j _ => lanes d L A B (640 * (2 * t1.val + 1) + 16 * j) (at1 d L B (2 * t1.val + 1))) $$ [HL Hf1_dst]
  case region =>
    intro j _
    exact lane1 d L A B t1 _ j
  · unfold lanes at1
    icases HL with ⟨Hm, -, HL⟩
    isplitl [Hm]; · iexact Hm
    isplitl [Hf1_dst]; · iexact Hf1_dst
    iexact HL
  iintro %_ HL
  ihave HL' := (lanes_out d L A B (show _ = 640 * (2 * (t1.val + 1)) by rw [show Scf.trips k0_t3_loop.lb k0_t3_loop.ub k0_t3_loop.st = 40 by decide]; omega)) $$ HL
  icases HL' with ⟨H1, HL⟩
  ihave Hs1 := (show ((Memref.whole main_v0_scv).view.loc (thr d L) ↦{q'} B : sProp 𝕄) ⊢ srcAt d L B q' from Entails.rfl) $$ Hf1_src
  sl_step
  isplitl []; · iexact Hmw
  isplitl [Hf0]; · iexact Hf0
  isplitl [H1]
  · iexists rVal L B (2 * t1.val + 1)
    unfold at1
    iexact H1
  isplitl [Hs1]; · iexact Hs1
  isplitl [Hf1]; · iexact Hf1
  isplitl [HL]; · iexact HL
  iexists (insert (SemLoc.dma cc0_scratch5.sem, none) (insert (SemLoc.dma cc0_scratch4.sem, none) W') : Waits sig (HIx 1))
  isplitr
  · ipureintro
    exact landed (landed hW')
  iexact HO

end Cert.Proof.MaxIdx

end
-- ==== Proof.Task.lean ====
/-
  The whole of one task of the SparseCore call.
-/
module

public import proofs.«01_k».proof.Proof.Tile

@[expose] public section

noncomputable section

namespace Cert.Proof.MaxIdx

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (A : S4x32768.Idx → F .f32) (B : S384x32768.Idx → F .f32)

/-- What the SparseCore call leaves in its two results. -/
def xOut : S4x3x20480.Idx → F .f32 := fun y => maxAt A B (3 * (y 0).val + (y 1).val) (y 2).val
def iOut : S4x3x20480.Idx → BitVec 32 := fun y => idxAt A B (3 * (y 0).val + (y 1).val) (y 2).val

/-- The task's columns of the two results, as the program addresses them. -/
abbrev xCols (L : grid0.Coords) : Memref sig .scVector .hbm S4x3x640 .f32 := (Memref.whole main_v1_0_scv).slice (Rect.unit (s := S4x3x20480) (k0_off74 L) S4x3x640.size (k0_off74_inb L)) (fun _ => rfl)
abbrev iCols (L : grid0.Coords) : Memref sig .scVector .hbm S4x3x640 .i32 := (Memref.whole main_v1_1_scv).slice (Rect.unit (s := S4x3x20480) (k0_off74 L) S4x3x640.size (k0_off74_inb L)) (fun _ => rfl)

/-- The row buffer is its two slots. -/
theorem slots_compl : Finset.univ \ (slot0).view.set = (slot1).view.set := by
  rw [slot0_set, slot1_set]
  ext (y : S2x32x640.Idx)
  rw [Finset.mem_sdiff, Rect.mem_set_unit, Rect.mem_set_unit]
  have h0 : (y 0).val < 2 := (y 0).isLt
  constructor
  · rintro ⟨-, h⟩ a
    by_contra hc
    apply h
    intro b
    have h1 := (y 1).isLt
    have h2 := (y 2).isLt
    fin_cases b
    · fin_cases a
      · simp at hc ⊢
        omega
      · exact absurd ⟨Nat.zero_le _, h1⟩ hc
      · exact absurd ⟨Nat.zero_le _, h2⟩ hc
    · exact ⟨Nat.zero_le _, h1⟩
    · exact ⟨Nat.zero_le _, h2⟩
  · intro h
    refine ⟨Finset.mem_univ _, fun h' => ?_⟩
    have a := (h 0).1
    have b := (h' 0).2
    simp at a b
    omega

/-- The two slots, each at contents of its own, are the row buffer at some contents. -/
theorem slots_join {f g : Buf (Elt F) ((Memref.whole cc0_scratch1).view.loc (thr d L))} :
    iprop(((slot0).view.loc (thr d L) ↦[(slot0).view.set]{fullShare} f) ∗ (slot1).view.loc (thr d L) ↦[(slot1).view.set]{fullShare} g)
      ⊢ (iprop(∃ f, (Memref.whole cc0_scratch1).view.loc (thr d L) ↦{fullShare} f) : sProp 𝕄) := by
  rw [← slots_compl]
  iintro H
  iexists _
  iapply (pointsTo_join_subset (Finset.subset_univ (slot0).view.set)) $$ H

/-- Where a result of the task lies in its columns. -/
theorem out_emb (y : S4x3x640.Idx) (h : ∀ a, k0_off74 L a + S4x3x640.size a ≤ S4x3x20480.size a) :
    ((Rect.unit (s := S4x3x20480) (k0_off74 L) S4x3x640.size h).emb y 0).val = (y 0).val ∧
      ((Rect.unit (s := S4x3x20480) (k0_off74 L) S4x3x640.size h).emb y 1).val = (y 1).val ∧
      ((Rect.unit (s := S4x3x20480) (k0_off74 L) S4x3x640.size h).emb y 2).val = col0 L + (y 2).val := by
  refine ⟨?_, ?_, ?_⟩
  · show k0_off74 L 0 + 1 * (y 0).val = _
    rw [k0_off74_eq, Nat.one_mul]
    exact Nat.zero_add _
  · show k0_off74 L 1 + 1 * (y 1).val = _
    rw [k0_off74_eq, Nat.one_mul]
    exact Nat.zero_add _
  · show k0_off74 L 2 + 1 * (y 2).val = _
    rw [k0_off74_eq, Nat.one_mul]
    rfl

/-- The task's columns of a result, once the result's copy has landed. -/
theorem x_landed {f0 : Buf (Elt F) ((Memref.whole main_v1_0_scv).view.loc (thr d L))} {w : S4x3x640.Idx → F .f32}
    (hw : ∀ y : S4x3x640.Idx, w y = maxAt A B (3 * (y 0).val + (y 1).val) (col0 L + (y 2).val)) :
    ((xCols L).view.loc (thr d L) ↦[(xCols L).view.set]{fullShare} (xCols L).view.writes (Elt F) f0 [⟨Rect.whole S4x3x640, w⟩] : sProp 𝕄)
      ⊢ (xCols L).view.loc (thr d L) ↦[(xCols L).view.set]{fullShare} xOut A B := by
  refine Entails.of_eq (pointsTo_congr fun i hi => ?_)
  obtain ⟨y, -, rfl⟩ := Finset.mem_map.mp hi
  have e : (xCols L).view.read (Elt F) ((xCols L).view.writes (Elt F) f0 [⟨Rect.whole S4x3x640, w⟩]) y = w y :=
    congrFun (View.read_writes_whole (Val := Elt F) (xCols L).view f0 w) y
  obtain ⟨e0, e1, e2⟩ := out_emb L y (k0_off74_inb L)
  have hx : xOut A B ((Rect.unit (s := S4x3x20480) (k0_off74 L) S4x3x640.size (k0_off74_inb L)).emb y) = w y := by
    unfold xOut
    rw [e0, e1, e2]
    exact (hw y).symm
  rw [View.read_apply] at e
  exact (eq_of_heq ((cast_heq _ _).symm.trans (heq_of_eq e))).trans hx.symm
theorem i_landed {f0 : Buf (Elt F) ((Memref.whole main_v1_1_scv).view.loc (thr d L))} {w : S4x3x640.Idx → BitVec 32}
    (hw : ∀ y : S4x3x640.Idx, w y = idxAt A B (3 * (y 0).val + (y 1).val) (col0 L + (y 2).val)) :
    ((iCols L).view.loc (thr d L) ↦[(iCols L).view.set]{fullShare} (iCols L).view.writes (Elt F) f0 [⟨Rect.whole S4x3x640, w⟩] : sProp 𝕄)
      ⊢ (iCols L).view.loc (thr d L) ↦[(iCols L).view.set]{fullShare} iOut A B := by
  refine Entails.of_eq (pointsTo_congr fun i hi => ?_)
  obtain ⟨y, -, rfl⟩ := Finset.mem_map.mp hi
  have e : (iCols L).view.read (Elt F) ((iCols L).view.writes (Elt F) f0 [⟨Rect.whole S4x3x640, w⟩]) y = w y :=
    congrFun (View.read_writes_whole (Val := Elt F) (iCols L).view f0 w) y
  obtain ⟨e0, e1, e2⟩ := out_emb L y (k0_off74_inb L)
  have hx : iOut A B ((Rect.unit (s := S4x3x20480) (k0_off74 L) S4x3x640.size (k0_off74_inb L)).emb y) = w y := by
    unfold iOut
    rw [e0, e1, e2]
    exact (hw y).symm
  rw [View.read_apply] at e
  exact (eq_of_heq ((cast_heq _ _).symm.trans (heq_of_eq e))).trans hx.symm

set_option maxHeartbeats 1000000 in
/-- One task's run: from its columns of the arguments and its own memory, its columns of the two results. -/
theorem task (q₀ q q' : PosShare TreeShare) (O : CellTallies nD τ sig (HIx 1)) (W : Waits sig (HIx 1))
    (f0 : Buf (Elt F) ((Memref.whole main_v1_0_scv).view.loc (thr d L))) (e0 : Buf (Elt F) ((Memref.whole main_v1_1_scv).view.loc (thr d L))) :
    iprop(Transfers.MayWaits (thr d L) (none : HIx 1) O ∗ ((Memref.whole main_arg0_scv).view.loc (thr d L) ↦{q₀} A) ∗ srcAt d L B q ∗ srcAt d L B q'
        ∗ ((xCols L).view.loc (thr d L) ↦[(xCols L).view.set]{fullShare} f0) ∗ ((iCols L).view.loc (thr d L) ↦[(iCols L).view.set]{fullShare} e0)
        ∗ (∃ f, (Memref.whole cc0_scratch0).view.loc (thr d L) ↦{fullShare} f) ∗ (∃ f, (Memref.whole cc0_scratch1).view.loc (thr d L) ↦{fullShare} f)
        ∗ (∃ f, (Memref.whole cc0_scratch2).view.loc (thr d L) ↦{fullShare} f) ∗ (∃ f, (Memref.whole cc0_scratch3).view.loc (thr d L) ↦{fullShare} f)
        ∗ semVal (thr d L, SemLoc.dma cc0_scratch4.sem) 0 ∗ semVal (thr d L, SemLoc.dma cc0_scratch5.sem) 0
        ∗ semVal (thr d L, SemLoc.dma cc0_scratch6.sem) 0 ∗ semVal (thr d L, SemLoc.dma cc0_scratch7.sem) 0
        ∗ semVal (thr d L, SemLoc.dma cc0_scoped0.sem) 0 ∗ owes (thr d L) O W)
      ⊢ wp frame (wpE (defs₀ (F := F)) 𝒱₀ (thr d L) none) Set.univ
          (cc0_sc_call L (Memref.whole main_arg0_scv) (Memref.isWhole_whole _) (Memref.whole main_v0_scv) (Memref.isWhole_whole _) (Memref.whole main_v1_0_scv) (Memref.isWhole_whole _) (Memref.whole main_v1_1_scv) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scratch4 cc0_scratch5 cc0_scratch6 cc0_scratch7 cc0_scoped0)
          fun _ => iprop(((Memref.whole main_arg0_scv).view.loc (thr d L) ↦{q₀} A) ∗ srcAt d L B q ∗ srcAt d L B q'
        ∗ ((xCols L).view.loc (thr d L) ↦[(xCols L).view.set]{fullShare} xOut A B) ∗ ((iCols L).view.loc (thr d L) ↦[(iCols L).view.set]{fullShare} iOut A B)
        ∗ (∃ f, (Memref.whole cc0_scratch0).view.loc (thr d L) ↦{fullShare} f) ∗ (∃ f, (Memref.whole cc0_scratch1).view.loc (thr d L) ↦{fullShare} f)
        ∗ (∃ f, (Memref.whole cc0_scratch2).view.loc (thr d L) ↦{fullShare} f) ∗ (∃ f, (Memref.whole cc0_scratch3).view.loc (thr d L) ↦{fullShare} f)
        ∗ semVal (thr d L, SemLoc.dma cc0_scratch4.sem) 0 ∗ semVal (thr d L, SemLoc.dma cc0_scratch5.sem) 0
        ∗ semVal (thr d L, SemLoc.dma cc0_scratch6.sem) 0 ∗ semVal (thr d L, SemLoc.dma cc0_scratch7.sem) 0
        ∗ semVal (thr d L, SemLoc.dma cc0_scoped0.sem) 0 ∗ ∃ W', ⌜∀ p ∈ W', p ∈ W ∨ p.2 = none⌝ ∗ owes (thr d L) O W') := by
  iintro ⟨#Hmw, Ha, Hs, Hs', Hx, Hi, ⟨%fm, Hm⟩, ⟨%fr, Hr⟩, ⟨%fx, Hxs⟩, ⟨%fi, His⟩, Hv4, Hv5, Hv6, Hv7, Hv, HO⟩
  ihave Hr' := (pointsTo_split_subset (Finset.subset_univ (slot0).view.set)).1 $$ Hr
  rw [slots_compl]
  icases Hr' with ⟨H0, H1⟩
  have o2 : k0_off2 L = ![32 * 0, col0 L] := k0_off2_eq L
  sl_unfold [cc0_sc_call, k0_part17]
  sl_exec
  iapply (start d L B o2 _ (read_slot0 L B 0) rfl) $$ [Hs H0 Hv4]
  · isplitl [Hs]; · iexact Hs
    isplitl [H0]; · iexact H0
    iexact Hv4
  iintro Hf
  sl_exec
  have hm : (View.write (Elt F) (Memref.whole cc0_scratch0).view fm (task.sl.dma0 L A) Finset.univ : S4x640.Idx → F .f32) = mVal L A := by
    refine (View.write_whole_univ _ _ _).trans (funext fun y => ?_)
    delta task.sl.dma0
    rw [ReadAs.apply_same]
    refine fA_eq A _ _ _ ?_ ?_
    · show k0_off1 L 0 + 1 * (y 0).val = _
      rw [k0_off1_eq, Nat.one_mul]
      exact Nat.zero_add _
    · show k0_off1 L 1 + 1 * (y 1).val = _
      rw [k0_off1_eq, Nat.one_mul]
      rfl
  sl_for (fun t _ => inv d L A B q q' O (insert (SemLoc.dma cc0_scoped0.sem, none) W) t) $$ [Hf H1 Hs' Hv5 Hm Hxs His HO]
  case region =>
    intro t1 _
    exact trip d L A B q q' O _ t1
  · unfold inv lanes
    isplitl []; · iexact Hmw
    isplitl [Hf]; · iexact Hf
    isplitl [H1]; · iexists fr; iexact H1
    isplitl [Hs']; · iexact Hs'
    isplitl [Hv5]; · iexact Hv5
    isplitl [Hm Hxs His]
    · isplitl [Hm]
      · rw [← hm]; iexact Hm
      isplitl []; · iempintro
      iexists fx, fi
      isplitl []
      · ipureintro
        intro y hy
        exact absurd hy (Nat.not_lt_zero _)
      isplitl [Hxs]; · iexact Hxs
      iexact His
    iexists _
    isplitl []
    swap; · iexact HO
    ipureintro
    exact fun p hp => .inl hp
  iintro %_ HI
  unfold inv lanes
  icases HI with ⟨-, Hf, ⟨%f1, H1⟩, Hs', Hv5, ⟨Hm, -, %f, %e, %hd, Hxs, His⟩, %W', %hW', HO⟩
  have hd' : ∀ y, f y = maxAt A B (3 * (y 0).val + (y 1).val) (col0 L + (y 2).val) ∧ e y = idxAt A B (3 * (y 0).val + (y 1).val) (col0 L + (y 2).val) := by
    intro y
    refine hd y ?_
    rw [show Scf.trips k0_t1_loop.lb k0_t1_loop.ub k0_t1_loop.st = 6 by decide]
    have h0 : (y 0).val < 4 := (y 0).isLt
    have h1 : (y 1).val < 3 := (y 1).isLt
    have h2 : (y 2).val < 640 := (y 2).isLt
    omega
  sl_exec
  ihave Hr := (slots_join d L) $$ [Hf_dst H1]
  · isplitl [Hf_dst]; · iexact Hf_dst
    iexact H1
  sl_step
  isplitl [Ha]; · iexact Ha
  isplitl [Hf_src]; · unfold srcAt; iexact Hf_src
  isplitl [Hs']; · iexact Hs'
  isplitl [Hx]
  · iapply (x_landed d L A B (w := task.sl.dma0_1 f) fun y => by delta task.sl.dma0_1; rw [ReadAs.apply_same]; exact (hd' y).1) $$ Hx
  isplitl [Hi]
  · iapply (i_landed d L A B (w := task.sl.dma0_2 e) fun y => by delta task.sl.dma0_2; rw [ReadAs.apply_same]; exact (hd' y).2) $$ Hi
  isplitl [Hm]; · iexists _; iexact Hm
  isplitl [Hr]; · iexact Hr
  isplitl [Hxs]; · iexists _; iexact Hxs
  isplitl [His]; · iexists _; iexact His
  isplitl [Hf]; · iexact Hf
  isplitl [Hv5]; · iexact Hv5
  isplitl [Hv6]; · iexact Hv6
  isplitl [Hv7]; · iexact Hv7
  isplitl [Hv]; · iexact Hv
  iexists (insert (SemLoc.dma cc0_scratch7.sem, none) (insert (SemLoc.dma cc0_scratch6.sem, none) (insert (SemLoc.dma cc0_scratch4.sem, none) W')) : Waits sig (HIx 1))
  isplitl []
  swap; · iexact HO
  ipureintro
  refine landed (landed (landed fun p hp => ?_))
  rcases hW' p hp with h | h
  · rcases Finset.mem_insert.1 h with rfl | h
    · exact .inr rfl
    · exact .inl h
  · exact .inr h

end Cert.Proof.MaxIdx

end
-- ==== Proof.Launch.lean ====
/-
  The SparseCore call as the launch theorem takes it: what the handshakes carry, each task from its own share of that,
  and the shares of the two cores and sixteen tasks put back together.
-/
module

public import proofs.«01_k».proof.Proof.Task

@[expose] public section

noncomputable section

namespace Cert.Proof.MaxIdx

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The tasks by core and subcore -/

/-- The grid point of core `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The columns of the two results that the task of core `c` and subcore `i` writes. -/
def colSet (c : Fin 2) (i : Fin 16) : Finset S4x3x20480.Idx := (xCols (coordsV c i)).view.set

theorem mem_colSet (c : Fin 2) (i : Fin 16) (y : S4x3x20480.Idx) : y ∈ colSet c i ↔ (y 2).val / 640 = 2 * i.val + c.val := by
  have e : colSet c i = (Rect.unit (s := S4x3x20480) (k0_off74 (coordsV c i)) S4x3x640.size (k0_off74_inb (coordsV c i))).set := by
    show ((View.whole (main_v1_0_scv : Ref sig .scVector)).slice _).set = _
    rw [View.set_slice]; exact Finset.map_refl
  rw [e, Rect.mem_set_unit]
  have hL1 : (coordsV c i 1).val = i.val := rfl
  have hL0 : (coordsV c i 0).val = c.val := rfl
  have ho : k0_off74 (coordsV c i) = ![0, 0, 1280 * i.val + 640 * c.val] := (k0_off74_eq _).trans (by rw [hL1, hL0])
  have h0 : (y 0).val < 4 := (y 0).isLt
  have h1 : (y 1).val < 3 := (y 1).isLt
  rw [ho]
  constructor
  · intro h
    have h2 := h 2
    have ha : 1280 * i.val + 640 * c.val ≤ (y 2).val := h2.1
    have hb : (y 2).val < 1280 * i.val + 640 * c.val + 640 := h2.2
    omega
  · intro h a
    match a with
    | 0 => exact ⟨Nat.zero_le _, by show (y 0).val < 0 + 4; omega⟩
    | 1 => exact ⟨Nat.zero_le _, by show (y 1).val < 0 + 3; omega⟩
    | 2 => exact ⟨by show 1280 * i.val + 640 * c.val ≤ (y 2).val; omega, by show (y 2).val < 1280 * i.val + 640 * c.val + 640; omega⟩

/-- The columns of one core's sixteen tasks. -/
def coreSet (c : Fin 2) : Finset S4x3x20480.Idx := Finset.univ.biUnion (colSet c)

theorem colSet_disjoint (c : Fin 2) : ∀ i ∈ (Finset.univ : Finset (Fin 16)), ∀ j ∈ (Finset.univ : Finset (Fin 16)), i ≠ j → Disjoint (colSet c i) (colSet c j) := by
  intro i _ j _ h
  rw [Finset.disjoint_left]
  intro y hi hj
  rw [mem_colSet] at hi hj
  exact h (Fin.ext (by omega))

theorem coreSet_disjoint : ∀ c ∈ (Finset.univ : Finset (Fin 2)), ∀ c' ∈ (Finset.univ : Finset (Fin 2)), c ≠ c' → Disjoint (coreSet c) (coreSet c') := by
  intro c _ c' _ h
  rw [Finset.disjoint_left]
  intro y hc hc'
  obtain ⟨i, -, hi⟩ := Finset.mem_biUnion.mp hc
  obtain ⟨j, -, hj⟩ := Finset.mem_biUnion.mp hc'
  rw [mem_colSet] at hi hj
  have := c.isLt
  have := c'.isLt
  exact h (Fin.ext (by omega))

theorem coreSet_cover : (Finset.univ : Finset (Fin 2)).biUnion coreSet = Finset.univ := by
  refine Finset.eq_univ_iff_forall.mpr fun y => ?_
  have h2 : (y 2).val < 20480 := (y 2).isLt
  refine Finset.mem_biUnion.mpr ⟨⟨(y 2).val / 640 % 2, by omega⟩, Finset.mem_univ _, Finset.mem_biUnion.mpr ⟨⟨(y 2).val / 640 / 2, by omega⟩, Finset.mem_univ _, ?_⟩⟩
  rw [mem_colSet]
  show (y 2).val / 640 = 2 * ((y 2).val / 640 / 2) + (y 2).val / 640 % 2
  omega

/-! ## What the handshakes carry -/

variable (m : (ℓ : Loc nD τ sig) → Buf (Elt F) ℓ) (ρ : Dev nD → PrngReg)

/-- The first argument and the reshaped second argument, as the tasks read them. -/
abbrev Am (d : Dev nD) : S4x32768.Idx → F .f32 := m (aLoc d)
def Bm (d : Dev nD) : S384x32768.Idx → F .f32 := shapeCast S384x32768 (m (rLoc d) : S4x3x32x32768.Idx → F .f32) shapeCasts_S4x3x32x32768_S384x32768

/-- The share of the arguments that the task of core `c` and subcore `i` reads through. -/
def qs (c : Fin 2) (i : Fin 16) : PosShare TreeShare := Transfers.dealOf (Transfers.dealOf fullShare Finset.univ c) Finset.univ i

/-- A task's part of the arrays: a share of the two arguments (of the second, in two halves: one for each slot of the row
    buffer), and its own columns of the two results. -/
def part (d : Dev nD) (fx : S4x3x20480.Idx → F .f32) (fi : S4x3x20480.Idx → BitVec 32) (c : Fin 2) (i : Fin 16) : sProp 𝕄 :=
  iprop((aLoc d ↦{qs c i} (Am m d : Buf (Elt F) (aLoc d)))
    ∗ ((bLoc d ↦{(qs c i).left} (Bm m d : Buf (Elt F) (bLoc d))) ∗ (bLoc d ↦{(qs c i).right} (Bm m d : Buf (Elt F) (bLoc d))))
    ∗ (xLoc d ↦[colSet c i]{fullShare} (fx : Buf (Elt F) (xLoc d))) ∗ (iLoc d ↦[colSet c i]{fullShare} (fi : Buf (Elt F) (iLoc d))))

/-- The four arrays, whole. -/
def whole4 (d : Dev nD) (fx : S4x3x20480.Idx → F .f32) (fi : S4x3x20480.Idx → BitVec 32) : sProp 𝕄 :=
  iprop((aLoc d ↦{fullShare} (Am m d : Buf (Elt F) (aLoc d))) ∗ (bLoc d ↦{fullShare} (Bm m d : Buf (Elt F) (bLoc d)))
    ∗ (xLoc d ↦{fullShare} (fx : Buf (Elt F) (xLoc d))) ∗ (iLoc d ↦{fullShare} (fi : Buf (Elt F) (iLoc d))))

/-- Read shares, dealt among the thirty-two tasks. -/
theorem deal_tasks (ℓ : Loc nD τ sig) (f : Buf (Elt F) ℓ) :
    (ℓ ↦{fullShare} f : sProp 𝕄) = bigSep Finset.univ fun c : Fin 2 => bigSep Finset.univ fun i : Fin 16 => ℓ ↦{qs c i} f := by
  rw [Transfers.pointsTo_deal (Finset.univ : Finset (Fin 2)) Finset.univ_nonempty fullShare]
  exact bigSep_congr fun c _ => Transfers.pointsTo_deal (Finset.univ : Finset (Fin 16)) Finset.univ_nonempty _

/-- Columns, dealt among the thirty-two tasks. -/
theorem x_tasks (d : Dev nD) (f : Buf (Elt F) (xLoc d)) :
    (xLoc d ↦{fullShare} f : sProp 𝕄) = bigSep Finset.univ fun c : Fin 2 => bigSep Finset.univ fun i : Fin 16 => xLoc d ↦[colSet c i]{fullShare} f := by
  rw [show (xLoc d ↦{fullShare} f : sProp 𝕄) = (xLoc d ↦[(Finset.univ : Finset (Fin 2)).biUnion coreSet]{fullShare} f) by rw [coreSet_cover]; try rfl,
    pointsTo_biUnion Finset.univ (ℓ := xLoc d) coreSet coreSet_disjoint]
  exact bigSep_congr fun c _ => pointsTo_biUnion Finset.univ (ℓ := xLoc d) (colSet c) (colSet_disjoint c)
theorem i_tasks (d : Dev nD) (f : Buf (Elt F) (iLoc d)) :
    (iLoc d ↦{fullShare} f : sProp 𝕄) = bigSep Finset.univ fun c : Fin 2 => bigSep Finset.univ fun i : Fin 16 => iLoc d ↦[colSet c i]{fullShare} f := by
  rw [show (iLoc d ↦{fullShare} f : sProp 𝕄) = (iLoc d ↦[(Finset.univ : Finset (Fin 2)).biUnion coreSet]{fullShare} f) by rw [coreSet_cover]; try rfl,
    pointsTo_biUnion Finset.univ (ℓ := iLoc d) coreSet coreSet_disjoint]
  exact bigSep_congr fun c _ => pointsTo_biUnion Finset.univ (ℓ := iLoc d) (colSet c) (colSet_disjoint c)

/-- The four arrays whole are the thirty-two parts. -/
theorem parts_eq (d : Dev nD) (fx : S4x3x20480.Idx → F .f32) (fi : S4x3x20480.Idx → BitVec 32) :
    (bigSep Finset.univ fun c : Fin 2 => bigSep Finset.univ fun i : Fin 16 => part m d fx fi c i) = (whole4 m d fx fi : sProp 𝕄) := by
  unfold whole4
  rw [deal_tasks (aLoc d), deal_tasks (bLoc d), x_tasks, i_tasks]
  have hb : ∀ (c : Fin 2) (i : Fin 16), iprop((bLoc d ↦{(qs c i).left} (Bm m d : Buf (Elt F) (bLoc d))) ∗ (bLoc d ↦{(qs c i).right} (Bm m d : Buf (Elt F) (bLoc d))))
      = (bLoc d ↦{qs c i} (Bm m d : Buf (Elt F) (bLoc d)) : sProp 𝕄) := fun c i =>
    (equiv_iff.mp ⟨(pointsTo_share (PosShare.mem_left_op_right _)).1, (pointsTo_share (PosShare.mem_left_op_right _)).2⟩).symm
  unfold part
  simp only [hb, bigSep_sep']

/-- What the call carries: each task its part, the results at what they held before and back at the values computed. -/
def P : (K (F := F)).Pay (nD := nD) (Val := Elt F) (Name := ℕ) (U := UU) where
  st := fun q d c => match q with
    | 0 => bigSep Finset.univ fun i : Fin 16 => part m d (m (xLoc d)) (m (iLoc d)) (Fin.cast nCore_zero c) i
  dn := fun q d c => match q with
    | 0 => bigSep Finset.univ fun i : Fin 16 => part m d (xOut (Am m d) (Bm m d)) (iOut (Am m d) (Bm m d)) (Fin.cast nCore_zero c) i
  go := fun q d c i => match q with
    | 0 => part m d (m (xLoc d)) (m (iLoc d)) (Fin.cast nCore_zero c) (Fin.cast nSub_zero i)
  td := fun q d c i => match q with
    | 0 => part m d (xOut (Am m d) (Bm m d)) (iOut (Am m d) (Bm m d)) (Fin.cast nCore_zero c) (Fin.cast nSub_zero i)
  x := fun _ _ => iprop(emp)

instance part_storable (d : Dev nD) (fx : S4x3x20480.Idx → F .f32) (fi : S4x3x20480.Idx → BitVec 32) (c : Fin 2) (i : Fin 16) :
    BI.Storable (upEmb : UEmb _ 𝕄) (part m d fx fi c i) := by unfold part; infer_instance

instance P_storable : (P (F := F) m).IsStorable where
  st q d c := match q with
    | 0 => (inferInstance : BI.Storable (upEmb : UEmb _ 𝕄) (bigSep Finset.univ fun i : Fin 16 => part m d (m (xLoc d)) (m (iLoc d)) (Fin.cast nCore_zero c) i))
  dn q d c := match q with
    | 0 => (inferInstance : BI.Storable (upEmb : UEmb _ 𝕄) (bigSep Finset.univ fun i : Fin 16 => part m d (xOut (Am m d) (Bm m d)) (iOut (Am m d) (Bm m d)) (Fin.cast nCore_zero c) i))
  go q d c i := match q with
    | 0 => (inferInstance : BI.Storable (upEmb : UEmb _ 𝕄) (part m d (m (xLoc d)) (m (iLoc d)) (Fin.cast nCore_zero c) (Fin.cast nSub_zero i)))
  td q d c i := match q with
    | 0 => (inferInstance : BI.Storable (upEmb : UEmb _ 𝕄) (part m d (xOut (Am m d) (Bm m d)) (iOut (Am m d) (Bm m d)) (Fin.cast nCore_zero c) (Fin.cast nSub_zero i)))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) : (bigSep Finset.univ fun c : Fin ((K (F := F)).nCore 0) => (P m).st 0 d c) = whole4 m d (m (xLoc d)) (m (iLoc d)) :=
  (bigSep_cores (F := F) fun c => bigSep Finset.univ fun i : Fin 16 => part m d (m (xLoc d)) (m (iLoc d)) c i).trans (parts_eq m d _ _)
theorem dn0_eq (d : Dev nD) : (bigSep Finset.univ fun c : Fin ((K (F := F)).nCore 0) => (P m).dn 0 d c) = whole4 m d (xOut (Am m d) (Bm m d)) (iOut (Am m d) (Bm m d)) :=
  (bigSep_cores (F := F) fun c => bigSep Finset.univ fun i : Fin 16 => part m d (xOut (Am m d) (Bm m d)) (iOut (Am m d) (Bm m d)) c i).trans (parts_eq m d _ _)

/-- A core hands its sixteen tasks their parts and takes them back. -/
theorem vecSplit : (K (F := F)).VecSplit' (P m) 0 := by
  intro d c
  show iprop(bigSep Finset.univ fun i : Fin 16 => part m d (m (xLoc d)) (m (iLoc d)) (Fin.cast nCore_zero c) i) ⊢ |={Set.univ}=> iprop(
      (bigSep Finset.univ fun i : Fin ((K (F := F)).nSub 0) => part m d (m (xLoc d)) (m (iLoc d)) (Fin.cast nCore_zero c) (Fin.cast nSub_zero i))
      ∗ ((bigSep Finset.univ fun i : Fin ((K (F := F)).nSub 0) => part m d (xOut (Am m d) (Bm m d)) (iOut (Am m d) (Bm m d)) (Fin.cast nCore_zero c) (Fin.cast nSub_zero i))
        -∗ iprop(bigSep Finset.univ fun i : Fin 16 => part m d (xOut (Am m d) (Bm m d)) (iOut (Am m d) (Bm m d)) (Fin.cast nCore_zero c) i)))
  rw [bigSep_tasks (F := F) (fun i => part m d (m (xLoc d)) (m (iLoc d)) (Fin.cast nCore_zero c) i),
    bigSep_tasks (F := F) (fun i => part m d (xOut (Am m d) (Bm m d)) (iOut (Am m d) (Bm m d)) (Fin.cast nCore_zero c) i)]
  iintro H; imodintro
  isplitl [H]; · iexact H
  iintro H; iexact H

/-! ## The task under the launch theorem -/

variable (d : Dev nD) (L : grid0.Coords)

/-- The five scoped semaphores the task names, apart from the rest. -/
abbrev cell (d : Dev nD) (L : grid0.Coords) (s : DmaSems sig S_) : GSem nD τ sig := (thr d L, .dma s.sem)

theorem ownSems0_V :
    (ownSems0 (V d (cV L) (jV L)) : sProp 𝕄)
      = iprop(semVal (cell d L cc0_scratch4) 0 ∗ semVal (cell d L cc0_scratch5) 0 ∗ semVal (cell d L cc0_scratch6) 0 ∗ semVal (cell d L cc0_scratch7) 0
          ∗ semVal (cell d L cc0_scoped0) 0
          ∗ bigSep ((((((ownCells (V d (cV L) (jV L))).erase (cell d L cc0_scratch4)).erase (cell d L cc0_scratch5)).erase (cell d L cc0_scratch6)).erase
              (cell d L cc0_scratch7)).erase (cell d L cc0_scoped0)) fun g => semVal g 0) := by
  have ne : ∀ s s' : DmaSems sig S_, s.sem ≠ s'.sem → cell d L s ≠ cell d L s' := fun s s' h e => h (SemLoc.dma.inj (congrArg Prod.snd e))
  have own : ∀ s : DmaSems sig S_, (SemLoc.dma s.sem : SemLoc sig).isScoped .scVector = true → cell d L s ∈ ownCells (V d (cV L) (jV L)) :=
    fun s h => (mem_ownCells (g := cell d L s)).mpr ⟨rfl, h⟩
  unfold SparseCore.Cfg.ownSems0
  rw [SparseCore.bigSep_erase' (own cc0_scratch4 (by decide)),
    SparseCore.bigSep_erase' (Finset.mem_erase.mpr ⟨ne cc0_scratch5 cc0_scratch4 (by decide), own cc0_scratch5 (by decide)⟩),
    SparseCore.bigSep_erase' (Finset.mem_erase.mpr ⟨ne cc0_scratch6 cc0_scratch5 (by decide), Finset.mem_erase.mpr ⟨ne cc0_scratch6 cc0_scratch4 (by decide), own cc0_scratch6 (by decide)⟩⟩),
    SparseCore.bigSep_erase' (Finset.mem_erase.mpr ⟨ne cc0_scratch7 cc0_scratch6 (by decide), Finset.mem_erase.mpr ⟨ne cc0_scratch7 cc0_scratch5 (by decide),
      Finset.mem_erase.mpr ⟨ne cc0_scratch7 cc0_scratch4 (by decide), own cc0_scratch7 (by decide)⟩⟩⟩),
    SparseCore.bigSep_erase' (Finset.mem_erase.mpr ⟨ne cc0_scoped0 cc0_scratch7 (by decide), Finset.mem_erase.mpr ⟨ne cc0_scoped0 cc0_scratch6 (by decide),
      Finset.mem_erase.mpr ⟨ne cc0_scoped0 cc0_scratch5 (by decide), Finset.mem_erase.mpr ⟨ne cc0_scoped0 cc0_scratch4 (by decide), own cc0_scoped0 (by decide)⟩⟩⟩⟩)]

/-- The four scratch buffers the task names, apart from the rest. -/
theorem ownBufs_V :
    (ownBufs (V d (cV L) (jV L)) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  have ne : ∀ b b' : Ref sig .scVector, b ≠ b' → (Proc.scVector (cV L) (jV L)).devRef b ≠ (Proc.scVector (cV L) (jV L)).devRef b' :=
    fun b b' h e => h (Proc.devRef_injective _ e)
  have own : ∀ b : Ref sig .scVector, ((Proc.scVector (cV L) (jV L)).devRef b).owner = .proc (Proc.scVector (cV L) (jV L)) →
      (Proc.scVector (cV L) (jV L)).devRef b ∈ ownRefs (τ := τ) (.scVector (cV L) (jV L)) :=
    fun b h => SparseCore.Cfg.mem_ownRefs_of_owner (p := Proc.scVector (cV L) (jV L)) (b := (Proc.scVector (cV L) (jV L)).devRef b) h
  unfold SparseCore.Cfg.ownBufs
  refine (SparseCore.bigSep_erase' (own cc0_scratch0 rfl)).trans ?_
  rw [SparseCore.bigSep_erase' (Finset.mem_erase.mpr ⟨ne cc0_scratch1 cc0_scratch0 (by decide), own cc0_scratch1 rfl⟩),
    SparseCore.bigSep_erase' (Finset.mem_erase.mpr ⟨ne cc0_scratch2 cc0_scratch1 (by decide), Finset.mem_erase.mpr ⟨ne cc0_scratch2 cc0_scratch0 (by decide), own cc0_scratch2 rfl⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide), own cc0_scratch3 rfl⟩⟩⟩)]

/-- The task from its part of the arrays and its own scratch buffers and semaphores. -/
theorem tile_body (hF : (K (F := F)).Facts) (O : CellTallies nD τ sig (HIx 1)) (W : Waits sig (HIx 1)) (hO : ∀ g, O g none = 0)
    (c : Fin 2) (i : Fin 16) (fx : S4x3x20480.Idx → F .f32) (fi : S4x3x20480.Idx → BitVec 32) :
    iprop(levAts (K (F := F)).L (K (F := F)).lev ∗ emp ∗ part m d fx fi c i
        ∗ scopedBufs (thr d (coordsV c i)) ∗ scopedSems0 (thr d (coordsV c i)) ∗ owes (thr d (coordsV c i)) O W)
      ⊢ wp frame (wpE (defs₀ (F := F)) 𝒱₀ (thr d (coordsV c i)) none) Set.univ
          (cc0_sc_call (coordsV c i) (Memref.whole main_arg0_scv) (Memref.isWhole_whole _) (Memref.whole main_v0_scv) (Memref.isWhole_whole _) (Memref.whole main_v1_0_scv) (Memref.isWhole_whole _) (Memref.whole main_v1_1_scv) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scratch4 cc0_scratch5 cc0_scratch6 cc0_scratch7 cc0_scoped0)
          fun _ => iprop(part m d (xOut (Am m d) (Bm m d)) (iOut (Am m d) (Bm m d)) c i
            ∗ scopedBufs (thr d (coordsV c i)) ∗ scopedSems0 (thr d (coordsV c i))
            ∗ ∃ W', ⌜∀ p ∈ W', p ∈ W ∨ p.2 = none ∨ p.2 = some (0 : Fin 1)⌝ ∗ owes (thr d (coordsV c i)) O W') := by
  rw [(K (F := F)).scopedBufs_V hF d (cV (coordsV c i)) (jV (coordsV c i)), SparseCore.Cfg.scopedSems0_V (Val := Elt F) d (cV (coordsV c i)) (jV (coordsV c i)),
    ownSems0_V, ownBufs_V]
  unfold part
  iintro ⟨#Hlv, -, ⟨Ha, ⟨Hs, Hs'⟩, Hx, Hi⟩, ⟨Hm, Hr, Hxs, His, Hbufs⟩, ⟨Hv4, Hv5, Hv6, Hv7, Hv, Hsems⟩, HO⟩
  ihave Hmw := (show levAts (K (F := F)).L (K (F := F)).lev ⊢ Transfers.MayWaits (thr d (coordsV c i)) (none : HIx 1) O from
    (K (F := F)).mayWaits_none (thr := thr d (coordsV c i)) hO) $$ Hlv
  iapply (wp_wand_r frame _ Set.univ)
  isplitl [Hmw Ha Hs Hs' Hx Hi Hm Hr Hxs His Hv4 Hv5 Hv6 Hv7 Hv HO]
  · iapply (task d (coordsV c i) (Am m d) (Bm m d) (qs c i) (qs c i).left (qs c i).right O W fx fi)
    isplitl [Hmw]; · iexact Hmw
    isplitl [Ha]; · iexact Ha
    isplitl [Hs]; · unfold srcAt; iexact Hs
    isplitl [Hs']; · unfold srcAt; iexact Hs'
    isplitl [Hx]; · iexact Hx
    isplitl [Hi]; · iexact Hi
    isplitl [Hm]; · iexact Hm
    isplitl [Hr]; · iexact Hr
    isplitl [Hxs]; · iexact Hxs
    isplitl [His]; · iexact His
    isplitl [Hv4]; · iexact Hv4
    isplitl [Hv5]; · iexact Hv5
    isplitl [Hv6]; · iexact Hv6
    isplitl [Hv7]; · iexact Hv7
    isplitl [Hv]; · iexact Hv
    iexact HO
  iintro %_ ⟨Ha, Hs, Hs', Hx, Hi, Hm, Hr, Hxs, His, Hv4, Hv5, Hv6, Hv7, Hv, %W', %hW', HO⟩
  unfold srcAt
  isplitl [Ha Hs Hs' Hx Hi]
  · isplitl [Ha]; · iexact Ha
    isplitl [Hs Hs']
    · isplitl [Hs]; · iexact Hs
      iexact Hs'
    isplitl [Hx]; · iexact Hx
    iexact Hi
  isplitl [Hm Hr Hxs His Hbufs]
  · isplitl [Hm]; · iexact Hm
    isplitl [Hr]; · iexact Hr
    isplitl [Hxs]; · iexact Hxs
    isplitl [His]; · iexact His
    iexact Hbufs
  isplitl [Hv4 Hv5 Hv6 Hv7 Hv Hsems]
  · isplitl [Hv4]; · iexact Hv4
    isplitl [Hv5]; · iexact Hv5
    isplitl [Hv6]; · iexact Hv6
    isplitl [Hv7]; · iexact Hv7
    isplitl [Hv]; · iexact Hv
    iexact Hsems
  iexists W'
  isplitr; · ipureintro; exact fun p hp => (hW' p hp).imp id Or.inl
  iexact HO

theorem defs₀_vector (c : Fin τ.nSC) (s : Fin τ.nSub) :
    defs₀ (F := F) (.scVector c s) 0 ()
      = SparseCore.onTile hcore0 hsub0 (fun c s => cc0_sc_call (coordsV c s) (Memref.whole main_arg0_scv) (Memref.isWhole_whole _) (Memref.whole main_v0_scv) (Memref.isWhole_whole _)
          (Memref.whole main_v1_0_scv) (Memref.isWhole_whole _) (Memref.whole main_v1_1_scv) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _)
          cc0_scratch4 cc0_scratch5 cc0_scratch6 cc0_scratch7 cc0_scoped0) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d hF O W hO (Fin.cast nCore_zero c) (Fin.cast nSub_zero i) (m (xLoc d)) (m (iLoc d))

end Cert.Proof.MaxIdx

end
-- ==== Proof.TCBody.lean ====
/-
  The body of the block pipeline's kernel at one grid point: what it leaves in the two result blocks, from the two
  argument blocks.
-/
module

public import proofs.«01_k».proof.Proof.Setup
public import Idealize.ShloMosaic.Lib.VecWindow
public import Idealize.ShloMosaic.Lib.Pipeline.Value

@[expose] public section

noncomputable section

namespace Cert.Proof.MaxIdx

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe Idealize.ShloMosaic.Tactic

variable {F : FTy → Type} [FloatOps F]

local notation "𝕄" => MT nD τ sig (HIx 1) (Elt F) ℕ UU ℕ

/-! ## The values -/

/-- The row of the first argument's block that the grid point's first coordinate selects. -/
def mrow (b : BitVec 32) (X0 : FVec F S4x2048 .f32) : FVec F S1x2048 .f32 :=
  Scalar.select (Scalar.cmpi .eq b 3#32) (extractStridedSlice S1x2048 ![3, 0] X0 slices_S4x2048_o3_0_S1x2048)
    (Scalar.select (Scalar.cmpi .eq b 2#32) (extractStridedSlice S1x2048 ![2, 0] X0 slices_S4x2048_o2_0_S1x2048)
      (Scalar.select (Scalar.cmpi .eq b 1#32) (extractStridedSlice S1x2048 ![1, 0] X0 slices_S4x2048_o1_0_S1x2048)
        (extractStridedSlice S1x2048 ![0, 0] X0 slices_S4x2048_o0_0_S1x2048)))

/-- The products of that row and the thirty-two rows of one slab of the second argument's block. -/
def tcP (b : BitVec 32) (X0 : FVec F S4x2048 .f32) (R : FVec F S1x1x32x2048 .f32) : FVec F S32x2048 .f32 :=
  mulf (broadcastTo S32x2048 (mrow b X0) broadcasts_S1x2048_S32x2048) (shapeCast S32x2048 R shapeCasts_S1x1x32x2048_S32x2048)

/-- Their maximum over the rows, and the first row that attains it. -/
def tcMax (P : FVec F S32x2048 .f32) : FVec F S2048 .f32 :=
  multiReduction .maximumf [0] S2048 P 0xFF800000#32 reduces_S32x2048_S2048 (.inl rfl) rfl
def tcIdx (P : FVec F S32x2048 .f32) : IVec S2048 32 :=
  multiReductionI .minsi [0] S2048
    (select (cmpf .oeq P (broadcastTo S32x2048 (shapeCast S1x2048 (tcMax P) shapeCasts_S2048_S1x2048) broadcasts_S1x2048_S32x2048))
      (iota .tc S32x2048 32 [0] iota_S32x2048_d0_w32) (broadcast S32x2048 32#32))
    2147483647#32 reduces_S32x2048_S2048 rfl

/-- Slab `a` of the second argument's block. -/
def slab (X1 : FVec F S1x3x32x2048 .f32) (a : Fin 3) : FVec F S1x1x32x2048 .f32 := fun y =>
  X1 (fun k => match k with
    | 0 => y 0
    | 1 => a
    | 2 => y 2
    | 3 => y 3)

/-- The position of an output block's index within a row. -/
def row2048 (y : S1x3x2048.Idx) : S2048.Idx := fun k => match k with
  | 0 => y 2

/-- The two output blocks, from the two argument blocks. -/
def outX (b : BitVec 32) (X0 : FVec F S4x2048 .f32) (X1 : FVec F S1x3x32x2048 .f32) : FVec F S1x3x2048 .f32 := fun y =>
  tcMax (tcP b X0 (slab X1 (y 1))) (row2048 y)
def outI (b : BitVec 32) (X0 : FVec F S4x2048 .f32) (X1 : FVec F S1x3x32x2048 .f32) : IVec S1x3x2048 32 := fun y =>
  tcIdx (tcP b X0 (slab X1 (y 1))) (row2048 y)

/-! ## The body -/

variable (c : Dev nD) (M0 : Memref sig .tc .vmem S4x2048 .f32) (h0 : M0.IsWhole) (M1 : Memref sig .tc .vmem S1x3x32x2048 .f32) (h1 : M1.IsWhole)
  (M2 : Memref sig .tc .vmem S1x3x2048 .f32) (h2 : M2.IsWhole) (M3 : Memref sig .tc .vmem S1x3x2048 .i32) (h3 : M3.IsWhole)

/-- Memref `M`'s buffer on core `c`, whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- A load of one slab of the second argument's block reads that slab. -/
theorem readAt_slab (f : M1.view.ty.Contents (Elt F)) (off : Fin 4 → ℕ) (a : Fin 3) (ho : off = ![0, a.val, 0, 0])
    (inb : ∀ k, off k + S1x1x32x2048.size k ≤ S1x3x32x2048.size k) :
    View.readAt (Elt F) M1.view (Rect.unit (s := S1x3x32x2048) off S1x1x32x2048.size inb).toLoadRect f = slab (M1.view.read (Elt F) f) a := by
  subst ho
  funext y
  refine congrArg (M1.view.read (Elt F) f) (funext fun k => Fin.ext ?_)
  show (![0, a.val, 0, 0] : Fin 4 → ℕ) k + 1 * (y k).val = _
  have hy1 : (y 1).val = 0 := by have : (y 1).val < 1 := (y 1).isLt; omega
  fin_cases k
  · show 0 + 1 * (y 0).val = (y 0).val; omega
  · show a.val + 1 * (y 1).val = a.val; omega
  · show 0 + 1 * (y 2).val = (y 2).val; omega
  · show 0 + 1 * (y 3).val = (y 3).val; omega

/-- Three stores of one slab each leave, of each slab, the row stored there. -/
theorem read_three {e : EltTy} (M : Memref sig .tc .vmem S1x3x2048 e) (f : M.view.ty.Contents (Elt F)) (w : Fin 3 → S1x1x2048.Idx → Elt F e)
    (g : S1x3x2048.Idx → Elt F e) (hg : ∀ (y : S1x3x2048.Idx) (x : S1x1x2048.Idx), (x 2).val = (y 2).val → w (y 1) x = g y)
    (i0 : ∀ k, (![0, 0, 0] : Fin 3 → ℕ) k + S1x1x2048.size k ≤ S1x3x2048.size k)
    (i1 : ∀ k, (![0, 1, 0] : Fin 3 → ℕ) k + S1x1x2048.size k ≤ S1x3x2048.size k)
    (i2 : ∀ k, (![0, 2, 0] : Fin 3 → ℕ) k + S1x1x2048.size k ≤ S1x3x2048.size k) :
    M.view.read (Elt F) (M.view.writes (Elt F) f
      [⟨Rect.unit (s := S1x3x2048) ![0, 2, 0] S1x1x2048.size i2, w 2⟩, ⟨Rect.unit (s := S1x3x2048) ![0, 1, 0] S1x1x2048.size i1, w 1⟩,
        ⟨Rect.unit (s := S1x3x2048) ![0, 0, 0] S1x1x2048.size i0, w 0⟩]) = g := by
  funext y
  let x : S1x1x2048.Idx := fun k => match k with
    | 0 => y 0
    | 1 => (0 : Fin 1)
    | 2 => y 2
  have hin : ∀ a : Fin 3, y 1 = a → ∀ k, (y k).val = (![0, a.val, 0] : Fin 3 → ℕ) k + (x k).val := by
    intro a ha k
    fin_cases k
    · show (y 0).val = 0 + (y 0).val; omega
    · show (y 1).val = a.val + 0; rw [ha]; rfl
    · show (y 2).val = 0 + (y 2).val; omega
  have hy := hg y x rfl
  have h3 : (y 1).val < 3 := (y 1).isLt
  have hc : y 1 = (0 : Fin 3) ∨ y 1 = (1 : Fin 3) ∨ y 1 = (2 : Fin 3) := by
    rcases (by omega : (y 1).val = 0 ∨ (y 1).val = 1 ∨ (y 1).val = 2) with h | h | h
    · exact .inl (Fin.ext h)
    · exact .inr (.inl (Fin.ext h))
    · exact .inr (.inr (Fin.ext h))
  rcases hc with h | h | h
  · rw [View.read_writes_cons_unit_of_not_mem M.view f i2 _ _ y rfl (1 : Fin 3) (.inl (by rw [h]; decide)),
      View.read_writes_cons_unit_of_not_mem M.view f i1 _ _ y rfl (1 : Fin 3) (.inl (by rw [h]; decide)),
      View.read_writes_cons_unit_of_mem M.view f i0 _ _ y x rfl (hin 0 h)]
    rw [← hy, h]
  · rw [View.read_writes_cons_unit_of_not_mem M.view f i2 _ _ y rfl (1 : Fin 3) (.inl (by rw [h]; decide)),
      View.read_writes_cons_unit_of_mem M.view f i1 _ _ y x rfl (hin 1 h)]
    rw [← hy, h]
  · rw [View.read_writes_cons_unit_of_mem M.view f i2 _ _ y x rfl (hin 2 h)]
    rw [← hy, h]

/-- A row stored as a one-row slab reads that row. -/
theorem cast_row {α : Type} (v : S2048.Idx → α) (x : S1x1x2048.Idx) (y : S1x3x2048.Idx) (h : (x 2).val = (y 2).val) :
    shapeCast S1x1x2048 (shapeCast S1x2048 v shapeCasts_S2048_S1x2048) shapeCasts_S1x2048_S1x1x2048 x = v (row2048 y) := by
  refine (shapeCast_addUnit_apply ![1, 2048] _ shapeCasts_S1x2048_S1x1x2048 x).trans ?_
  refine (shapeCast_addUnit_apply ![2048] v shapeCasts_S2048_S1x2048 _).trans ?_
  refine congrArg v (funext fun k => Fin.ext ?_)
  fin_cases k
  exact h

/-- The body run once: the two arguments' blocks are unchanged and the two output blocks hold the row maxima and the
    first rows that attain them. -/
theorem tc_run (i : grid1.Coords) (f0 : Buf (Elt F) (M0.view.loc (c : Thread nD τ))) (f1 : Buf (Elt F) (M1.view.loc (c : Thread nD τ)))
    (f2 : Buf (Elt F) (M2.view.loc (c : Thread nD τ))) (f3 : Buf (Elt F) (M3.view.loc (c : Thread nD τ))) :
    iprop(pt c M0 f0 ∗ pt c M1 f1 ∗ pt c M2 f2 ∗ pt c M3 f3)
      ⊢ wp frame (wpE (defs₀ (F := F)) 𝒱₀ (c : Thread nD τ) none) Set.univ (cc1__tc_body i M0 h0 M1 h1 M2 h2 M3 h3)
          fun _ => iprop(pt c M0 f0 ∗ pt c M1 f1
            ∗ (∃ g2, ⌜M2.view.read (Elt F) g2 = outX (BitVec.ofNat 32 (i 0).val) (M0.view.read (Elt F) f0) (M1.view.read (Elt F) f1)⌝ ∗ pt c M2 g2)
            ∗ (∃ g3, ⌜M3.view.read (Elt F) g3 = outI (BitVec.ofNat 32 (i 0).val) (M0.view.read (Elt F) f0) (M1.view.read (Elt F) f1)⌝ ∗ pt c M3 g3)) := by
  iintro ⟨H0, H1, H2, H3⟩
  sl_unfold [cc1__tc_body, k1_part1, k1_part2]
  sl_exec
  sl_step
  isplitl [H0]; · iexact H0
  isplitl [H1]; · iexact H1
  isplitl [H2]
  · iexists _
    isplitr [H2]; swap; · iexact H2
    ipureintro
    delta tc_run.sl.r tc_run.sl.r_1
    rw [readAt_slab M1 f1 ![0, 0, 0, 0] 0 rfl, readAt_slab M1 f1 ![0, 1, 0, 0] 1 rfl, readAt_slab M1 f1 ![0, 2, 0, 0] 2 rfl, View.readAt_full]
    refine read_three M2 f2 (fun a => shapeCast S1x1x2048 (shapeCast S1x2048
      (tcMax (tcP (BitVec.ofNat 32 (i 0).val) (M0.view.read (Elt F) f0) (slab (M1.view.read (Elt F) f1) a)))
        shapeCasts_S2048_S1x2048) shapeCasts_S1x2048_S1x1x2048) _ (fun y x h => cast_row _ x y h) _ _ _
  iexists _
  isplitr [H3]; swap; · iexact H3
  ipureintro
  delta tc_run.sl.r tc_run.sl.r_1
  rw [readAt_slab M1 f1 ![0, 0, 0, 0] 0 rfl, readAt_slab M1 f1 ![0, 1, 0, 0] 1 rfl, readAt_slab M1 f1 ![0, 2, 0, 0] 2 rfl, View.readAt_full]
  refine read_three M3 f3 (fun a => shapeCast S1x1x2048 (shapeCast S1x2048
    (tcIdx (tcP (BitVec.ofNat 32 (i 0).val) (M0.view.read (Elt F) f0) (slab (M1.view.read (Elt F) f1) a)))
      shapeCasts_S2048_S1x2048) shapeCasts_S1x2048_S1x1x2048) _ (fun y x h => cast_row _ x y h) _ _ _

end Cert.Proof.MaxIdx

end
-- ==== Proof.TCRegion.lean ====
/-
  The block pipeline as one region of the program: its proof data, its body obligation, and the region between two
  valuations of the unscoped buffers.
-/
module

public import proofs.«01_k».proof.Proof.TCBody
public import Idealize.ShloMosaic.Lib.Pipeline.ValueKit.Partial
public import Idealize.ShloMosaic.Lib.Pipeline.RegionsLoop

@[expose] public section

noncomputable section

namespace Cert.Proof.MaxIdx

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The proof data, at an entry valuation -/

variable (W0 : (c : Dev nD) → (b : Ref sig .tc) → Buf (Elt F) ((c : Thread nD τ).loc b))

/-- The two arguments' blocks at point `t`, as the fetches stage them. -/
abbrev blkA (c : Dev nD) (t : Fin cfg1.N) : FVec F S4x2048 .f32 := (win1_0.blk t).view.read (Elt F) (W0 c main_arg0)
abbrev blkB (c : Dev nD) (t : Fin cfg1.N) : FVec F S1x3x32x2048 .f32 := (win1_1.blk t).view.read (Elt F) (W0 c main_arg1)

/-- The first coordinate of point `t`, as the body reads it. -/
abbrev row (t : Fin cfg1.N) : BitVec 32 := BitVec.ofNat 32 ((grid1.coords t) 0).val

/-- The proof data from valuation `W0`: the arrays at `W0`; after the body the arguments' blocks as fetched and the results'
    at the body's values; nothing owed; full shares; what the core's waits have recorded stays below the next call's levels. -/
def dat (c : Dev nD) : Dat τ (Elt F) (HIx 1) ℕ UU ℕ cfg1 c where
  A w := W0 c (Pipeline.arrRef spec1 w)
  after w t := match w with
    | ⟨0, _⟩ => blkA W0 c t
    | ⟨1, _⟩ => blkB W0 c t
    | ⟨2, _⟩ => outX (row t) (blkA W0 c t) (blkB W0 c t)
    | ⟨3, _⟩ => outI (row t) (blkA W0 c t) (blkB W0 c t)
  Φ _ := Pipeline.scopedRest (Ix := HIx 1) (Name := ℕ) (U := UU) (Lvl := ℕ) (Val := Elt F) spec1 c
  q _ := fullShare
  owed _ := 0
  recorded _ := {p | (K (F := F)).lev ((c : Thread nD τ), p.1) p.2 ≤ 8}

theorem before_0 (c : Dev nD) (t : Fin cfg1.N) (d : S4x2048.Idx → F .f32) : (dat W0 c).before 0 t d = blkA W0 c t := by
  unfold Dat.before; rw [if_pos (fetch1_0 t)]; rfl
theorem before_1 (c : Dev nD) (t : Fin cfg1.N) (d : S1x3x32x2048.Idx → F .f32) : (dat W0 c).before 1 t d = blkB W0 c t := by
  unfold Dat.before; rw [if_pos (fetch1_1 t)]; rfl

theorem after_2 (c : Dev nD) (t : Fin cfg1.N) : (dat W0 c).after 2 t = outX (row t) (blkA W0 c t) (blkB W0 c t) := by dsimp only [dat]
theorem after_3 (c : Dev nD) (t : Fin cfg1.N) : (dat W0 c).after 3 t = outI (row t) (blkA W0 c t) (blkB W0 c t) := by dsimp only [dat]

/-- A whole memref owned at what it reads is its buffer held whole. -/
theorem owns_eq (c : Dev nD) {S : Shape} {e : EltTy} (M : Memref sig .tc .vmem S e) (h : M.IsWhole) (X : S.Idx → Elt F e) :
    (owns (c : Thread nD τ) M fullShare X : sProp 𝕄) = iprop(∃ f, ⌜M.view.read (Elt F) f = X⌝ ∗ pt c M f) := by
  unfold owns
  rw [h.set_eq_univ]

theorem owns_out (c : Dev nD) {S : Shape} {e : EltTy} (M : Memref sig .tc .vmem S e) (h : M.IsWhole) (X : S.Idx → Elt F e) :
    (owns (c : Thread nD τ) M fullShare X : sProp 𝕄) ⊢ iprop(∃ f, ⌜M.view.read (Elt F) f = X⌝ ∗ pt c M f) := .of_eq (owns_eq c M h X)
theorem owns_in (c : Dev nD) {S : Shape} {e : EltTy} (M : Memref sig .tc .vmem S e) (h : M.IsWhole) (X : S.Idx → Elt F e) :
    iprop(∃ f, ⌜M.view.read (Elt F) f = X⌝ ∗ pt c M f) ⊢ (owns (c : Thread nD τ) M fullShare X : sProp 𝕄) := .of_eq (owns_eq c M h X).symm

/-- The staging memref of each window at point `t` is a whole buffer. -/
theorem hs0 (t : Fin cfg1.N) : (st1_0 t).IsWhole := hstage1_0 ((cfg1.slots t 0).cast nbuf1_0)
theorem hs1 (t : Fin cfg1.N) : (st1_1 t).IsWhole := hstage1_1 ((cfg1.slots t 1).cast nbuf1_1)
theorem hs2 (t : Fin cfg1.N) : (st1_2 t).IsWhole := hstage1_2 ((cfg1.slots t 2).cast nbuf1_2)
theorem hs3 (t : Fin cfg1.N) : (st1_3 t).IsWhole := hstage1_3 ((cfg1.slots t 3).cast nbuf1_3)

/-- The body obligation: the four staging buffers taken apart, the body's run, its post reassembled. -/
theorem body_obligation (c : Dev nD) : BodyObligation (dat W0 c) (defs₀ (F := F)) 𝒱₀ none Set.univ := fun t => by
  rw [bigSep_W1, bigSep_W1]
  rw [show (dat W0 c).Φ t.castSucc = (dat W0 c).Φ t.succ from rfl,
    show (dat W0 c).owesAt none t.succ = (dat W0 c).owesAt none t.castSucc from rfl]
  iintro ⟨HΦ, Howes, ⟨%d0, H0⟩, ⟨%d1, H1⟩, ⟨%d2, H2⟩, ⟨%d3, H3⟩⟩
  ihave H0' := (owns_out c (st1_0 t) (hs0 t) _) $$ H0
  ihave H1' := (owns_out c (st1_1 t) (hs1 t) _) $$ H1
  ihave H2' := (owns_out c (st1_2 t) (hs2 t) _) $$ H2
  ihave H3' := (owns_out c (st1_3 t) (hs3 t) _) $$ H3
  icases H0' with ⟨%f0, %e0, H0⟩
  icases H1' with ⟨%f1, %e1, H1⟩
  icases H2' with ⟨%f2, -, H2⟩
  icases H3' with ⟨%f3, -, H3⟩
  rw [before_0] at e0
  rw [before_1] at e1
  iapply (wp_wand_r frame _ Set.univ)
  isplitl [H0 H1 H2 H3]
  · iapply (tc_run c (st1_0 t) (hs0 t) (st1_1 t) (hs1 t) (st1_2 t) (hs2 t) (st1_3 t) (hs3 t) (grid1.coords t) f0 f1 f2 f3)
    isplitl [H0]; · iexact H0
    isplitl [H1]; · iexact H1
    isplitl [H2]; · iexact H2
    iexact H3
  iintro %_ ⟨H0, H1, ⟨%g2, %e2, H2⟩, ⟨%g3, %e3, H3⟩⟩
  rw [e0, e1] at e2 e3
  isplitl [HΦ]; · iexact HΦ
  isplitl [Howes]; · iexact Howes
  isplitl [H0]
  · iapply (owns_in c (st1_0 t) (hs0 t) _)
    iexists f0; isplitr; · ipureintro; exact e0
    iexact H0
  isplitl [H1]
  · iapply (owns_in c (st1_1 t) (hs1 t) _)
    iexists f1; isplitr; · ipureintro; exact e1
    iexact H1
  isplitl [H2]
  · iapply (owns_in c (st1_2 t) (hs2 t) ((dat W0 c).after 2 t))
    iexists g2; isplitr; · ipureintro; rw [after_2]; exact e2
    iexact H2
  iapply (owns_in c (st1_3 t) (hs3 t) ((dat W0 c).after 3 t))
  iexists g3; isplitr; · ipureintro; rw [after_3]; exact e3
  iexact H3

/-! ## The arrays after the region -/

/-- Column block `k` of the first argument, and column block `k` of row `b` of the second. -/
def cutA (A : S4x32768.Idx → F .f32) (k : Fin 16) : FVec F S4x2048 .f32 := fun y =>
  A (fun a => match a with
    | 0 => y 0
    | 1 => (⟨2048 * k.val + (y 1).val, by have := k.isLt; have : (y 1).val < 2048 := (y 1).isLt; omega⟩ : Fin 32768))
def cutB (B : S4x3x32x32768.Idx → F .f32) (b : Fin 4) (k : Fin 16) : FVec F S1x3x32x2048 .f32 := fun y =>
  B (fun a => match a with
    | 0 => b
    | 1 => y 1
    | 2 => y 2
    | 3 => (⟨2048 * k.val + (y 3).val, by have := k.isLt; have : (y 3).val < 2048 := (y 3).isLt; omega⟩ : Fin 32768))

/-- The column block of a result's index, and the index within the block. -/
def colBlk (y : S4x3x32768.Idx) : Fin 16 := ⟨(y 2).val / 2048, by have : (y 2).val < 32768 := (y 2).isLt; omega⟩
def inBlk (y : S4x3x32768.Idx) : S1x3x2048.Idx := fun a => match a with
  | 0 => (0 : Fin 1)
  | 1 => y 1
  | 2 => (⟨(y 2).val % 2048, Nat.mod_lt _ (by decide)⟩ : Fin 2048)

/-- The two results of the block pipeline's kernel at every index, were it run on every column block. -/
def tcX (A : S4x32768.Idx → F .f32) (B : S4x3x32x32768.Idx → F .f32) : S4x3x32768.Idx → F .f32 := fun y =>
  outX (BitVec.ofNat 32 (y 0).val) (cutA A (colBlk y)) (cutB B (y 0) (colBlk y)) (inBlk y)
def tcI (A : S4x32768.Idx → F .f32) (B : S4x3x32x32768.Idx → F .f32) : S4x3x32768.Idx → BitVec 32 := fun y =>
  outI (BitVec.ofNat 32 (y 0).val) (cutA A (colBlk y)) (cutB B (y 0) (colBlk y)) (inBlk y)

theorem ix0 : ∀ t : Fin cfg1.N, win1_0.index t = ![0, (grid1.coords t 1).val + 10] :=
  (by decide +kernel : ∀ t : Fin grid1.N, win1_0.index t = ![0, (grid1.coords t 1).val + 10])
theorem ix1 : ∀ t : Fin cfg1.N, win1_1.index t = ![(grid1.coords t 0).val, 0, 0, (grid1.coords t 1).val + 10] :=
  (by decide +kernel : ∀ t : Fin grid1.N, win1_1.index t = ![(grid1.coords t 0).val, 0, 0, (grid1.coords t 1).val + 10])
theorem ix2 : ∀ t : Fin cfg1.N, win1_2.index t = ![(grid1.coords t 0).val, 0, (grid1.coords t 1).val + 10] :=
  (by decide +kernel : ∀ t : Fin grid1.N, win1_2.index t = ![(grid1.coords t 0).val, 0, (grid1.coords t 1).val + 10])
theorem ix3 : ∀ t : Fin cfg1.N, win1_3.index t = ![(grid1.coords t 0).val, 0, (grid1.coords t 1).val + 10] :=
  (by decide +kernel : ∀ t : Fin grid1.N, win1_3.index t = ![(grid1.coords t 0).val, 0, (grid1.coords t 1).val + 10])

/-- The two arguments' blocks at point `t` are the column block its second coordinate names, of the row its first names. -/
theorem blkA_eq (c : Dev nD) (t : Fin cfg1.N) (k : Fin 16) (hk : k.val = (grid1.coords t 1).val + 10) : blkA W0 c t = cutA (W0 c main_arg0) k := by
  have e0 := ix0 t
  funext y
  blk_simp [blkA]
  unfold cutA
  refine congrArg (W0 c main_arg0) (funext fun a => Fin.ext ?_)
  match a with
  | 0 => blk_simp [e0]; rfl
  | 1 => blk_simp [e0]; show ((grid1.coords t 1).val + 10) * 2048 + (y 1).val = 2048 * k.val + (y 1).val; omega
theorem blkB_eq (c : Dev nD) (t : Fin cfg1.N) (b : Fin 4) (k : Fin 16) (hb : b.val = (grid1.coords t 0).val)
    (hk : k.val = (grid1.coords t 1).val + 10) : blkB W0 c t = cutB (W0 c main_arg1) b k := by
  have e1 := ix1 t
  funext y
  blk_simp [blkB]
  unfold cutB
  refine congrArg (W0 c main_arg1) (funext fun a => Fin.ext ?_)
  match a with
  | 0 => blk_simp [e1]; exact hb.symm
  | 1 => blk_simp [e1]; rfl
  | 2 => blk_simp [e1]; rfl
  | 3 => blk_simp [e1]; show ((grid1.coords t 1).val + 10) * 2048 + (y 3).val = 2048 * k.val + (y 3).val; omega

/-- An array index that point `t`'s block puts at `y` has `y` as its index within its column block. -/
theorem inBlk_eq (y : S1x3x2048.Idx) (e : S4x3x32768.Idx) (n : ℕ) (h1 : (e 1).val = (y 1).val) (h2 : (e 2).val = 2048 * n + (y 2).val) : inBlk e = y := by
  have h0 : (y 0).val < 1 := (y 0).isLt
  have h3 : (y 2).val < 2048 := (y 2).isLt
  funext a
  refine Fin.ext ?_
  match a with
  | 0 => show 0 = (y 0).val; omega
  | 1 => exact h1
  | 2 => show (e 2).val % 2048 = (y 2).val; omega
theorem colBlk_val (y : S1x3x2048.Idx) (e : S4x3x32768.Idx) (n : ℕ) (h2 : (e 2).val = 2048 * n + (y 2).val) : (colBlk e).val = n := by
  have h3 : (y 2).val < 2048 := (y 2).isLt
  show (e 2).val / 2048 = n; omega

theorem outX_at (c : Dev nD) (t : Fin cfg1.N) (y : S1x3x2048.Idx) (e : S4x3x32768.Idx) (h0 : (e 0).val = (grid1.coords t 0).val)
    (h1 : (e 1).val = (y 1).val) (h2 : (e 2).val = 2048 * ((grid1.coords t 1).val + 10) + (y 2).val) :
    outX (row t) (blkA W0 c t) (blkB W0 c t) y = tcX (W0 c main_arg0) (W0 c main_arg1) e := by
  unfold tcX
  rw [inBlk_eq y e _ h1 h2, h0, blkA_eq W0 c t (colBlk e) (colBlk_val y e _ h2), blkB_eq W0 c t (e 0) (colBlk e) h0 (colBlk_val y e _ h2)]
theorem outI_at (c : Dev nD) (t : Fin cfg1.N) (y : S1x3x2048.Idx) (e : S4x3x32768.Idx) (h0 : (e 0).val = (grid1.coords t 0).val)
    (h1 : (e 1).val = (y 1).val) (h2 : (e 2).val = 2048 * ((grid1.coords t 1).val + 10) + (y 2).val) :
    outI (row t) (blkA W0 c t) (blkB W0 c t) y = tcI (W0 c main_arg0) (W0 c main_arg1) e := by
  unfold tcI
  rw [inBlk_eq y e _ h1 h2, h0, blkA_eq W0 c t (colBlk e) (colBlk_val y e _ h2), blkB_eq W0 c t (e 0) (colBlk e) h0 (colBlk_val y e _ h2)]

/-- The results' arrays after the region: the kernel's values from column 20480 on, the entry contents before. -/
theorem arr_2 (c : Dev nD) (i : S4x3x32768.Idx) : (dat W0 c).arrAt 2 cfg1.N i
    = if 20480 ≤ (i 2).val then tcX (W0 c main_arg0) (W0 c main_arg1) i else W0 c main_v2_0 i := by
  refine (dat W0 c).arrAt_apply_of_coversWhere 2 (tcX (W0 c main_arg0) (W0 c main_arg1)) (P := fun i : S4x3x32768.Idx => 20480 ≤ (i 2).val)
    (fun β => 10 ≤ β (2 : Fin 3)) (by decide +kernel) (fun t hf y => ?_) (fun j => ?_) i
  · have e2 := ix2 t
    blk_simp
    rw [after_2]
    refine outX_at W0 c t y _ ?_ ?_ ?_
    · blk_simp [e2]
    · blk_simp [e2]
    · blk_simp [e2]; show ((grid1.coords t 1).val + 10) * 2048 + (y 2).val = _; omega
  · blk_simp [Pipeline.Window.cell_apply]; omega
theorem arr_3 (c : Dev nD) (i : S4x3x32768.Idx) : (dat W0 c).arrAt 3 cfg1.N i
    = if 20480 ≤ (i 2).val then tcI (W0 c main_arg0) (W0 c main_arg1) i else W0 c main_v2_1 i := by
  refine (dat W0 c).arrAt_apply_of_coversWhere 3 (tcI (W0 c main_arg0) (W0 c main_arg1)) (P := fun i : S4x3x32768.Idx => 20480 ≤ (i 2).val)
    (fun β => 10 ≤ β (2 : Fin 3)) (by decide +kernel) (fun t hf y => ?_) (fun j => ?_) i
  · have e3 := ix3 t
    blk_simp
    rw [after_3]
    refine outI_at W0 c t y _ ?_ ?_ ?_
    · blk_simp [e3]
    · blk_simp [e3]
    · blk_simp [e3]; show ((grid1.coords t 1).val + 10) * 2048 + (y 2).val = _; omega
  · blk_simp [Pipeline.Window.cell_apply]; omega

/-! ## The region -/

/-- No window's pipeline has a prefetched table. -/
def adm : (p : Fin 1) → (pcfgs (F := F) p).Adm := fun p => (cfgs p).toPCfg_adm

/-- The proof data family: this one at the only pipeline. -/
def pdats : (p : Fin 1) → (c : Dev nD) → Dat τ (Elt F) (HIx 1) ℕ UU ℕ (Pipeline.pin (pcfgs (F := F)) adm p) c
  | ⟨0, _⟩ => fun c => dat W0 c

/-- What the core owes after the call: nothing, its waits' recorded pairs below the next call's levels. -/
abbrev tcOwes (c : Dev nD) : sProp 𝕄 :=
  iprop(∃ W, ⌜(K (F := F)).WBelow (c : Thread nD τ) W 8⌝ ∗ owes (c : Thread nD τ) (0 : CellTallies nD τ sig (HIx 1)) W)

variable (Wp : (c : Dev nD) → (b : Ref sig .tc) → Buf (Elt F) ((c : Thread nD τ).loc b))

set_option backward.isDefEq.respectTransparency.types false in
/-- The region, over every unscoped buffer: entered at `W0`, left at any `Wp` that has the two results' arrays as the
    pipeline leaves them and agrees with `W0` elsewhere. -/
def reg (h2 : ∀ c, Wp c main_v2_0 = (dat W0 c).arrAt 2 cfg1.N) (h3 : ∀ c, Wp c main_v2_1 = (dat W0 c).arrAt 3 cfg1.N)
    (hne : ∀ c (b : Ref sig .tc), b ≠ main_v2_0 → b ≠ main_v2_1 → Wp c b = W0 c b) :
    Pipeline.RegionSeg (pcfgs (F := F)) adm (pdats W0) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation W0 c).loose
  hwaits := Pipeline.hwaits_of_owed_zero _ _ _ _ _ _ 0 fun _ _ => rfl
  pre c := iprop(unscopedBufs c (W0 c) ∗ tcOwes (F := F) c)
  post c := iprop(unscopedBufs c (Wp c) ∗ tcOwes (F := F) c)
  X _ := BI.emp
  Y _ := BI.emp
  Z c := Pipeline.unscopedRest (Ix := HIx 1) (Name := ℕ) (U := UU) (Lvl := ℕ) spec1 c (W0 c)
  hentry c := by
    rw [Pipeline.ownSems0_none]
    have hsplit := Pipeline.arrays_of_unscopedBufs (p := 0) (pcfgs (F := F)) adm (pdats W0) launch1.win launch1.arr_whole c
      ((pdats W0 0 c).share_full fun _ => rfl) (W0 c) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats W0 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none,
      show (pdats W0 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win
      launch1.arr_whole c (pdats W0) ((pdats W0 0 c).share_full fun _ => rfl) (W0 c) (Wp c) ((pdats W0 0 c).arrAt · cfg1.N)
      (fun w => by
        fin_cases w
        · exact ((pdats W0 0 c).arrAt_in 0 rfl _).trans (hne c main_arg0 (by decide) (by decide)).symm
        · exact ((pdats W0 0 c).arrAt_in 1 rfl _).trans (hne c main_arg1 (by decide) (by decide)).symm
        · exact (h2 c).symm
        · exact (h3 c).symm)
      (fun b hb => hne c b (fun h => hb (h ▸ Finset.mem_image.mpr ⟨2, Finset.mem_univ _, rfl⟩)) (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr; swap; · iexact HO
    ipureintro
    intro p hp
    rcases hW hp with h | ⟨w, s, h⟩
    · exact h
    · subst h; exact Nat.zero_le _

end Cert.Proof.MaxIdx

end
-- ==== Proof.Main.lean ====
/-
  The program: the reshape, the SparseCore call, the block pipeline and the two updates, run from any launch memory; what
  every run ends with.
-/
module

public import proofs.«01_k».proof.Proof.Launch
public import proofs.«01_k».proof.Proof.TCRegion

@[expose] public section

noncomputable section

namespace Cert.Proof.MaxIdx

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq wp_hlo_within wp_seq held_sub_split held_congr)
open Idealize.ShloMosaic.TcCoe Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host operations -/

/-- The second argument as a matrix. -/
abbrev opReshape : HloOp τ sig (Elt F) :=
  StableHlo.reshape main_arg1 main_v0 (rfl : (.f32 : EltTy) = .f32) shapeCasts_S4x3x32x32768_S384x32768
/-- The update of a result's first columns, as a function of its operands. -/
abbrev updF {e : EltTy} (x : (⟨S4x3x32768, e⟩ : BufTy).Contents (Elt F)) (u : (⟨S4x3x20480, e⟩ : BufTy).Contents (Elt F))
    (i : Fin 3 → (⟨S_, .i32⟩ : BufTy).Contents (Elt F)) : (⟨S4x3x32768, e⟩ : BufTy).Contents (Elt F) :=
  Host.dynamicUpdateSlice x u (fun k => (i k (Shape.Idx.first h_S_)).toInt) updateFits_S4x3x32768_S4x3x20480
/-- The two updates, each after its three constants. -/
abbrev tailOps : List (HloOp τ sig (Elt F)) :=
  [StableHlo.nullary main_c (constantI S_ 32 0#32), StableHlo.nullary main_c_0 (constantI S_ 32 0#32), StableHlo.nullary main_c_1 (constantI S_ 32 0#32),
   StableHlo.binaryIndexed main_v2_0 main_v1_0 ![main_c, main_c_0, main_c_1] ⟨S_, .i32⟩ main_v3 (updF (e := .f32)),
   StableHlo.nullary main_c_2 (constantI S_ 32 0#32), StableHlo.nullary main_c_3 (constantI S_ 32 0#32), StableHlo.nullary main_c_4 (constantI S_ 32 0#32),
   StableHlo.binaryIndexed main_v2_1 main_v1_1 ![main_c_2, main_c_3, main_c_4] ⟨S_, .i32⟩ main_v4 (updF (e := .i32))]

/-- The program as its four parts. -/
theorem main_eq (d : Dev nD) : main (F := F) d = (do
    hlo rfl opReshape (fun _ => .ret ⟨⟩)
    (K (F := F)).run d 0
    SparseCore.liftProg (.op (.customCall (Pipeline.entry 0) ()) .ret)
    seq tailOps) := rfl

/-! ## The buffers -/

abbrev dr (b : Ref sig .tc) : DevRef τ sig := Proc.devRef .tc b

/-- The unscoped buffers of a TensorCore. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W (dr b)) : sProp 𝕄) = held (c : Thread nD τ) ucRefs W := by
  unfold unscopedBufs held ucRefs StableHlo.tcRefs
  rw [Finset.filter_map, bigSep_map]; rfl

/-! ## The valuations after each part -/

def V0 (d : Dev nD) : Valuation τ sig (Elt F) := fun b => m (d, b)
def V1 (d : Dev nD) : Valuation τ sig (Elt F) := (opReshape (F := F)).result (V0 m d)
def V2 (d : Dev nD) : Valuation τ sig (Elt F) :=
  Function.update (Function.update (V1 m d) (dr main_v1_0) (xOut (Am m d) (Bm m d))) (dr main_v1_1) (iOut (Am m d) (Bm m d))
abbrev W2 (c : Dev nD) (b : Ref sig .tc) : Buf (Elt F) ((c : Thread nD τ).loc b) := V2 m c (dr b)
def V3 (d : Dev nD) : Valuation τ sig (Elt F) :=
  Function.update (Function.update (V2 m d) (dr main_v2_0) ((dat (W2 m) d).arrAt 2 cfg1.N)) (dr main_v2_1) ((dat (W2 m) d).arrAt 3 cfg1.N)
abbrev W3 (c : Dev nD) (b : Ref sig .tc) : Buf (Elt F) ((c : Thread nD τ).loc b) := V3 m c (dr b)
def V4 (d : Dev nD) : Valuation τ sig (Elt F) := after (tailOps (F := F)) (V3 m d)

/-- The four arrays of the SparseCore call. -/
abbrev call4 : Finset (DevRef τ sig) := {dr main_arg0, dr main_v0, dr main_v1_0, dr main_v1_1}

omit [FloatOps F] in
theorem held_call4 (d : Dev nD) (W : Valuation τ sig (Elt F)) :
    (held (T d) call4 W : sProp 𝕄) = iprop((aLoc d ↦{fullShare} W (dr main_arg0)) ∗ (bLoc d ↦{fullShare} W (dr main_v0))
      ∗ (xLoc d ↦{fullShare} W (dr main_v1_0)) ∗ (iLoc d ↦{fullShare} W (dr main_v1_1))) := by
  unfold held
  rw [SparseCore.bigSep_insert' (by decide), SparseCore.bigSep_insert' (by decide), SparseCore.bigSep_insert' (by decide), bigSep_singleton]

theorem call4_sub : call4 ⊆ ucRefs := by decide

theorem V1_ne (d : Dev nD) (b : Ref sig .tc) (h : b ≠ main_v0) : V1 m d (dr b) = m (d, dr b) :=
  StableHlo.reshape_result_ne' _ _ _ _ (V0 m d) h
theorem V1_b (d : Dev nD) : V1 m d (dr main_v0) = Bm m d :=
  StableHlo.reshape_result' _ _ _ _ (V0 m d)

/-- Before the call its four arrays are what it takes, -/
theorem held_before (d : Dev nD) : (held (T d) call4 (V1 m d) : sProp 𝕄) = whole4 m d (m (xLoc d)) (m (iLoc d)) := by
  rw [held_call4, V1_b, V1_ne m d main_arg0 (by decide), V1_ne m d main_v1_0 (by decide), V1_ne m d main_v1_1 (by decide)]; rfl
theorem held_split4 (d : Dev nD) : (held (T d) ucRefs ((opReshape (F := F)).result (V0 m d)) : sProp 𝕄)
    = iprop(whole4 m d (m (xLoc d)) (m (iLoc d)) ∗ held (T d) (ucRefs \ call4) (V1 m d)) := by
  rw [← held_before]; exact held_sub_split (T d) call4_sub (V1 m d)
/-- and after it what it hands back; -/
theorem held_after (d : Dev nD) : (held (T d) call4 (V2 m d) : sProp 𝕄) = whole4 m d (xOut (Am m d) (Bm m d)) (iOut (Am m d) (Bm m d)) := by
  have hx : V2 m d (dr main_v1_0) = xOut (Am m d) (Bm m d) :=
    (Function.update_of_ne (show dr main_v1_0 ≠ dr main_v1_1 by decide) _ _).trans (Function.update_self _ _ _)
  have hi : V2 m d (dr main_v1_1) = iOut (Am m d) (Bm m d) := Function.update_self _ _ _
  have ha : V2 m d (dr main_arg0) = V1 m d (dr main_arg0) :=
    (Function.update_of_ne (show dr main_arg0 ≠ dr main_v1_1 by decide) _ _).trans (Function.update_of_ne (show dr main_arg0 ≠ dr main_v1_0 by decide) _ _)
  have hb : V2 m d (dr main_v0) = V1 m d (dr main_v0) :=
    (Function.update_of_ne (show dr main_v0 ≠ dr main_v1_1 by decide) _ _).trans (Function.update_of_ne (show dr main_v0 ≠ dr main_v1_0 by decide) _ _)
  rw [held_call4, hx, hi, ha, hb, V1_b, V1_ne m d main_arg0 (by decide)]; rfl
/-- the others are untouched. -/
theorem held_others (d : Dev nD) : (held (T d) (ucRefs \ call4) (V2 m d) : sProp 𝕄) = held (T d) (ucRefs \ call4) (V1 m d) := by
  refine held_congr _ fun b hb => ?_
  have hn := (Finset.mem_sdiff.mp hb).2
  refine (Function.update_of_ne (fun h => hn (by rw [h]; decide)) _ _).trans (Function.update_of_ne (fun h => hn (by rw [h]; decide)) _ _)

/-! ## The launch element -/

abbrev EP : Emb UP 𝕄 := (Emb.inl : Emb UP (UP × Counters)).trans embR
instance : (EP (F := F)).LandsIn (upEmb : UEmb _ 𝕄) := by unfold EP; infer_instance

def u₀ : UU := (initOf (K (F := F)).hsCells (K (F := F)).hsToks,
  (initOf (Pipeline.cells (nD := nD) (τ := τ) cfgs cellOf_inj) (Pipeline.launchToks (nD := nD) (τ := τ) cfgs cellOf_inj), 1))

/-- The block pipeline's ghost state, which the program takes at its start. -/
def G (d : Dev nD) : sProp 𝕄 := iprop(Pipeline.cellsGhost cfgs (EP (F := F)) 0 d ∗ Pipeline.toksInit cfgs (EP (F := F)) 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), (1 : Counters)))) $$ Hu
  icases H with ⟨HH, HR⟩
  ihave H := (own_pair_emb (embR : Emb (UP × Counters) 𝕄) (initOf (Pipeline.cells (nD := nD) (τ := τ) cfgs cellOf_inj)
    (Pipeline.launchToks (nD := nD) (τ := τ) cfgs cellOf_inj)) (1 : Counters)) $$ HR
  icases H with ⟨HP, -⟩
  imod (Pipeline.fund_ghost cfgs (EP (F := F)) cellOf_inj) $$ HP with ⟨Hg, Ht⟩
  imodintro
  isplitl [HH]; · iexact HH
  isplitl [Hg Ht]
  · unfold G; rw [bigSep_sep']
    rw [show (fun c : Dev nD => bigSep (Finset.univ : Finset (Fin 1)) fun p => (Pipeline.cellsGhost cfgs (EP (F := F)) p c : sProp 𝕄))
        = fun c => Pipeline.cellsGhost cfgs (EP (F := F)) 0 c from funext fun _ => bigSep_univ_of_subsingleton (0 : Fin 1),
      show (fun c : Dev nD => bigSep (Finset.univ : Finset (Fin 1)) fun p => (Pipeline.toksInit cfgs (EP (F := F)) p c : sProp 𝕄))
        = fun c => Pipeline.toksInit cfgs (EP (F := F)) 0 c from funext fun _ => bigSep_univ_of_subsingleton (0 : Fin 1)]
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The parts of the program -/

/-- An operation's buffers are unscoped. -/
theorem sub_uc (op : HloOp τ sig (Elt F)) (h : op.bufs ⊆ StableHlo.tcRefs τ sig) : op.bufs ⊆ ucRefs := fun b hb =>
  Finset.mem_filter.mpr ⟨h hb, by rw [op.no_scoped b hb]; decide⟩
theorem reshape_within : (opReshape (F := F)).bufs ⊆ ucRefs := sub_uc _ (StableHlo.reshape_bufs_sub _ _ _ _ _ _)
theorem tail_within : ∀ op ∈ tailOps (F := F), op.bufs ⊆ ucRefs := fun op h => sub_uc op
  ((List.forall_iff_forall_mem (p := fun op : HloOp τ sig (Elt F) => op.bufs ⊆ StableHlo.tcRefs τ sig) (l := tailOps)).mp
    ⟨StableHlo.nullary_bufs_sub _ _ _, StableHlo.nullary_bufs_sub _ _ _, StableHlo.nullary_bufs_sub _ _ _, StableHlo.binaryIndexed_bufs_sub _ _ _ _ _ _ _ _ _ _ _,
     StableHlo.nullary_bufs_sub _ _ _, StableHlo.nullary_bufs_sub _ _ _, StableHlo.nullary_bufs_sub _ _ _, StableHlo.binaryIndexed_bufs_sub _ _ _ _ _ _ _ _ _ _ _⟩ op h)
theorem tail_fresh : ∀ op ∈ tailOps (F := F), op.fresh = ∅ :=
  (List.forall_iff_forall_mem (p := fun op : HloOp τ sig (Elt F) => op.fresh = ∅) (l := tailOps)).mp ⟨rfl, rfl, rfl, rfl, rfl, rfl, rfl, rfl⟩

/-- The two updates, from the buffers after the pipeline. -/
theorem wp_tail (d : Dev nD) {Q : PUnit → sProp 𝕄} :
    iprop(boundary (T d) ∗ held (T d) ucRefs (V3 m d))
      ⊢ iprop(((boundary (T d) ∗ held (T d) ucRefs (V4 m d)) -∗ Q ⟨⟩)
        -∗ wp frame (wpE ((K (F := F)).defs (D (F := F))) 𝒱 (T d) none) Set.univ (seq (tailOps (F := F))) Q) := by
  have h := wp_seq (defs := (K (F := F)).defs (D (F := F))) 𝒱 none Set.univ d ucRefs (fun _ => (pure ⟨⟩ : Prog _ PUnit)) (K := Q) (tailOps (F := F))
    tail_within tail_fresh (V3 m d)
  rw [show (seq (tailOps (F := F)) : Prog (TpuEff nD τ sig (Elt F) _ .tc) PUnit) = seq tailOps >>= fun _ => pure ⟨⟩ from (bind_pure _).symm]
  iintro H Hk
  ihave H' := h $$ H
  iapply H'
  iintro H
  rw [wp_pure]
  imodintro
  iapply Hk; iexact H

/-- The block pipeline, from the buffers after the SparseCore call to the buffers after it. -/
theorem wp_region [∀ e, Nonempty (Elt F e)] (d : Dev nD) {Q : PUnit → sProp 𝕄} :
    iprop((iprop(boundary (T d) ∗ held (T d) ucRefs (V3 m d) ∗ tcOwes (F := F) d) -∗ Q ⟨⟩)
        ∗ boundary (T d) ∗ (held (T d) ucRefs (V2 m d) ∗ tcOwes (F := F) d) ∗ levAts (K (F := F)).L (K (F := F)).lev ∗ G d)
      ⊢ wp frame (wpE ((K (F := F)).defs (D (F := F))) 𝒱 (T d) none) Set.univ
          (SparseCore.liftProg (.op (.customCall (Pipeline.entry 0) ()) .ret)) Q := by
  refine BIBase.Entails.trans ?_ ((K (F := F)).wp_liftProg (D (F := F)) 𝒱 (T d) Set.univ none (.op (.customCall (Pipeline.entry 0) ()) .ret) Q)
  have h2 : ∀ c, W3 m c main_v2_0 = (dat (W2 m) c).arrAt 2 cfg1.N := fun c =>
    (Function.update_of_ne (show dr main_v2_0 ≠ dr main_v2_1 by decide) _ _).trans (Function.update_self _ _ _)
  have h3 : ∀ c, W3 m c main_v2_1 = (dat (W2 m) c).arrAt 3 cfg1.N := fun c => Function.update_self _ _ _
  have hne : ∀ c (b : Ref sig .tc), b ≠ main_v2_0 → b ≠ main_v2_1 → W3 m c b = W2 m c b := fun c b h h' =>
    (Function.update_of_ne (fun e => h' (Proc.devRef_injective .tc e)) _ _).trans (Function.update_of_ne (fun e => h (Proc.devRef_injective .tc e)) _ _)
  have h := Pipeline.RegionSeg.wp (pcfgs (F := F)) adm (pdats (W2 m)) (none : HIx 1) cellOf_inj (EP (F := F)) defs₀ 𝒱₀ (K (F := F)).L (K (F := F)).lev
    (reg (W2 m) (W3 m) h2 h3 hne) d none (fun _ hu => nomatch hu) .ret Q
  refine BIBase.Entails.trans ?_ h
  show _ ⊢ iprop((iprop(boundary (T d) ∗ iprop(unscopedBufs d (W3 m d) ∗ tcOwes (F := F) d)) -∗ _) ∗ boundary (T d)
    ∗ iprop(unscopedBufs d (W2 m d) ∗ tcOwes (F := F) d) ∗ _)
  rw [← unscopedBufs_held, ← unscopedBufs_held]
  unfold G
  iintro ⟨Hk, Hb, Hpre, Hlev, Hg, Ht⟩
  isplitl [Hk]
  · iintro ⟨Hb, Hu, HO⟩
    rw [wp_ret]; imodintro
    iapply Hk
    isplitl [Hb]; · iexact Hb
    isplitl [Hu]; · iexact Hu
    iexact HO
  isplitl [Hb]; · iexact Hb
  isplitl [Hpre]; · iexact Hpre
  isplitl [Hlev]; · iexact Hlev
  isplitl [Hg] <;> iassumption

/-! ## The program on the TensorCore -/

/-- The TensorCore's state after the call, but for what it owes. -/
def tcRest (d : Dev nD) : sProp 𝕄 :=
  iprop(atPos (EH (F := F)) ((K (F := F)).doneCell d) 1 ∅ 0 ∗ reached (EH (F := F)) ((K (F := F)).doneCell d) 1
    ∗ (bigSep Finset.univ fun c : Fin τ.nSC => reached (EH (F := F)) ((K (F := F)).startCell d c) ((K (F := F)).sRank c 1))
    ∗ bigSep (SparseCore.Cfg.callsFrom 1) fun q => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some (SparseCore.Cfg.Blocks.last q)) 1)))
theorem tcSt_end (d : Dev nD) : ((K (F := F)).tcSt EH d 1 : sProp 𝕄) = iprop(tcOwes (F := F) d ∗ tcRest (F := F) d) := by
  unfold SparseCore.Cfg.tcSt tcRest
  rw [(K (F := F)).Otc_end d (n := 1) (by decide)]; rfl
theorem tcSt_after (d : Dev nD) : ((K (F := F)).tcSt EH d ((0 : Fin 1).val + 1) : sProp 𝕄) = iprop(tcOwes (F := F) d ∗ tcRest (F := F) d) :=
  tcSt_end d

/-- What the program leaves: every unscoped buffer at its last contents. -/
abbrev FIN (d : Dev nD) : sProp 𝕄 := held (T d) ucRefs (V4 m d)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) ucRefs (V0 m d) from unscopedBufs_held d (V0 m d), main_eq]
  rw [wp_bind, wp_bind, wp_bind]
  iintro ⟨#Hctx, Hst, ⟨Hb, Hheld, Hts, -⟩, HG⟩
  -- the reshape
  iapply (wp_hlo_within 𝒱 (SparseCore.T d) none Set.univ (op := opReshape) (S := ucRefs) reshape_within (V := V0 m d)) $$ [Hb Hheld]
  · isplitl [Hb] <;> iassumption
  iintro ⟨Hb, Hheld⟩
  rw [wp_ret]; imodintro
  -- the SparseCore call
  ihave Hh := (Entails.of_eq (held_split4 m d)) $$ Hheld
  icases Hh with ⟨H4, Hrest⟩
  iapply ((K (F := F)).wp_run (D (F := F)) 𝒱 (EH := EH) (P := P m) κ d 0) $$ [Hst H4 Hb Hrest Hts HG]
  isplitr; · iexact Hctx
  isplitl [Hst]; · iexact Hst
  isplitl [H4]
  · rw [st0_eq]; iexact H4
  iintro ⟨Hst, Hdn⟩
  ihave H4 := (Entails.of_eq ((dn0_eq m d).trans (held_after m d).symm)) $$ Hdn
  ihave Hrest' := (Entails.of_eq (held_others m d).symm) $$ Hrest
  ihave Hheld := (Entails.of_eq (held_sub_split (T d) call4_sub (V2 m d)).symm) $$ [H4 Hrest']
  · isplitl [H4] <;> iassumption
  -- the block pipeline
  ihave Hlev := (SparseCore.Cfg.ctx_levAts κ) $$ Hctx
  ihave Hst' := (Entails.of_eq (tcSt_after (F := F) d)) $$ Hst
  icases Hst' with ⟨HO, Hst⟩
  iapply (wp_region m d) $$ [Hb Hheld HO Hlev HG Hst Hts]
  isplitr [Hb Hheld HO Hlev HG]
  · iintro ⟨Hb, Hheld, HO⟩
    -- the two updates
    iapply (wp_tail m d) $$ [Hb Hheld]
    · isplitl [Hb] <;> iassumption
    iintro ⟨Hb, Hheld⟩
    rw [tcSt_end]
    isplitl [HO Hst]
    · isplitl [HO]; · iexact HO
      iexact Hst
    isplitl [Hheld]; · iexact Hheld
    isplitl [Hb] <;> iassumption
  isplitl [Hb]; · iexact Hb
  isplitl [Hheld HO]
  · isplitl [Hheld]; · iexact Hheld
    iexact HO
  isplitl [Hlev]; · iexact Hlev
  iexact HG

/-! ## What every run ends with -/

def fq (d : Dev nD) (s' : Phys nD τ sig (Elt F)) : Prop := ∀ b : {b // b ∈ ucRefs}, s'.mem.mem (d, b.1) = V4 m d b.1

theorem hfin (d : Dev nD) (s' : Phys nD τ sig (Elt F)) : iprop(FIN m d ∗ SI s') ⊢ (⌜fq m d s'⌝ : sProp 𝕄) := by
  refine BIBase.Entails.trans (forall_intro fun b => ?_) pure_forall.2
  unfold FIN
  rw [held_sub_split (T d) (Finset.singleton_subset_iff.mpr b.2) (V4 m d)]
  unfold held
  rw [bigSep_singleton]
  iintro ⟨⟨Hx, -⟩, HSI⟩
  ihave H := (SI_pointsTo_agree (st := s') (ℓ := (d, b.1)) (I := Finset.univ) (q := fullShare) (f := V4 m d b.1)) $$ [HSI Hx]
  · isplitl [HSI] <;> iassumption
  icases H with %hx
  ipureintro; exact funext fun i => hx i (Finset.mem_univ i)

/-- Every unscoped buffer at its last contents, every semaphore at zero. -/
def QC : PUnit × MemSt nD τ sig (Elt F) → Prop := fun r => (∀ c : Dev nD, ∀ b : {b // b ∈ ucRefs}, r.2.mem (c, b.1) = V4 m c b.1) ∧ r.2.sem = fun _ => 0

/-- The program's run, from any launch memory. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.MaxIdx

end
-- ==== Proof.Results.lean ====
/-
  The contents of the arguments and the results after the program, in terms of the two arguments; the frames.
-/
module

public import proofs.«01_k».proof.Proof.Main
public import proofs.«01_k».proof.Proof.Gen.Kernel
public import proofs.«01_k».proof.Proof.Gen.ReferenceIdeal

@[expose] public section

noncomputable section

namespace Cert.Proof.MaxIdx

open Cert.KernelIdeal Cert.KernelIdeal.Gen

open Idealize.ShloMosaic
open Idealize.SL Idealize.SL.Sem
open Idealize.ShloMosaic.StableHlo (after seq indexContents after_cons after_nil nullary_result' nullary_result_ne' binaryIndexed_result_read binaryIndexed_result_ne')
open Idealize.ShloMosaic.TcCoe

variable {F : FTy → Type} [FloatOps F]

variable (m : (ℓ : Loc nD τ sig) → Buf (Elt F) ℓ) (ρ : Dev nD → PrngReg)

/-! ## The update -/

/-- A result's column among the first 20480, as an index of the update. -/
def narrow (y : S4x3x32768.Idx) (h : (y 2).val < 20480) : S4x3x20480.Idx := fun a => match a with
  | 0 => y 0
  | 1 => y 1
  | 2 => ⟨(y 2).val, h⟩

/-- The update at start zero: the first 20480 columns are the update's. -/
theorem updF_at {e : EltTy} (x : (⟨S4x3x32768, e⟩ : BufTy).Contents (Elt F)) (u : (⟨S4x3x20480, e⟩ : BufTy).Contents (Elt F))
    (i : Fin 3 → (⟨S_, .i32⟩ : BufTy).Contents (Elt F)) (hi : ∀ k, i k (Shape.Idx.first h_S_) = 0#32) (y : S4x3x32768.Idx) :
    updF x u i y = if h : (y 2).val < 20480 then u (narrow y h) else x y := by
  have e0 : ∀ a : Fin 3, (min (max ((i a (Shape.Idx.first h_S_)).toInt) 0) ((S4x3x32768.size a - S4x3x20480.size (Fin.cast updateFits_S4x3x32768_S4x3x20480.1.symm a) : ℕ) : Int)).toNat = 0 := fun a => by
    rw [hi]; simp
  unfold updF
  rw [Host.dynamicUpdateSlice_eq_updateSlice x u _ _ (fun _ => 0) e0 updateFits_S4x3x32768_S4x3x20480]
  unfold updateSlice
  by_cases h : (y 2).val < 20480
  · rw [dif_pos h, dif_pos]
    · refine congrArg u (funext fun a => Fin.ext ?_)
      match a with
      | 0 => rfl
      | 1 => rfl
      | 2 => rfl
    · intro a
      refine ⟨Nat.zero_le _, ?_⟩
      match a with
      | 0 => exact (Nat.zero_add _).symm ▸ (y 0).isLt
      | 1 => exact (Nat.zero_add _).symm ▸ (y 1).isLt
      | 2 => exact (Nat.zero_add _).symm ▸ h
  · rw [dif_neg h, dif_neg]
    intro hh
    exact h (lt_of_lt_of_eq (hh 2).2 (Nat.zero_add _))

/-! ## The buffers after the program -/

theorem V2_arg (d : Dev nD) (b : Ref sig .tc) (h0 : b ≠ main_v0) (h1 : b ≠ main_v1_0) (h2 : b ≠ main_v1_1) : V2 m d (dr b) = m (d, dr b) :=
  (Function.update_of_ne (fun e => h2 (Proc.devRef_injective .tc e)) _ _).trans
    ((Function.update_of_ne (fun e => h1 (Proc.devRef_injective .tc e)) _ _).trans (V1_ne m d b h0))
theorem V3_arg (d : Dev nD) (b : Ref sig .tc) (h3 : b ≠ main_v2_0) (h4 : b ≠ main_v2_1) : V3 m d (dr b) = V2 m d (dr b) :=
  (Function.update_of_ne (fun e => h4 (Proc.devRef_injective .tc e)) _ _).trans (Function.update_of_ne (fun e => h3 (Proc.devRef_injective .tc e)) _ _)

theorem V4_arg0 (d : Dev nD) : V4 m d (dr main_arg0) = m (d, dr main_arg0) := by
  refine Eq.trans ?_ ((V3_arg m d main_arg0 (by decide) (by decide)).trans (V2_arg m d main_arg0 (by decide) (by decide) (by decide)))
  unfold V4
  simp (disch := decide) only [after_cons, after_nil, nullary_result_ne', binaryIndexed_result_ne']
theorem V4_arg1 (d : Dev nD) : V4 m d (dr main_arg1) = m (d, dr main_arg1) := by
  refine Eq.trans ?_ ((V3_arg m d main_arg1 (by decide) (by decide)).trans (V2_arg m d main_arg1 (by decide) (by decide) (by decide)))
  unfold V4
  simp (disch := decide) only [after_cons, after_nil, nullary_result_ne', binaryIndexed_result_ne']

/-- Three zero constants, read as the start of an update. -/
theorem zeros_at (W : Valuation τ sig (Elt F)) (b0 b1 b2 : Ref sig .tc) (hT : ∀ k, ((![b0, b1, b2] : Fin 3 → Ref sig .tc) k).ty = ⟨S_, .i32⟩)
    (h0 : ∀ (h : b0.ty = ⟨S_, .i32⟩) i, cast (congrArg (fun U : BufTy => U.Contents (Elt F)) h) (W (dr b0)) i = 0#32)
    (h1 : ∀ (h : b1.ty = ⟨S_, .i32⟩) i, cast (congrArg (fun U : BufTy => U.Contents (Elt F)) h) (W (dr b1)) i = 0#32)
    (h2 : ∀ (h : b2.ty = ⟨S_, .i32⟩) i, cast (congrArg (fun U : BufTy => U.Contents (Elt F)) h) (W (dr b2)) i = 0#32) (k : Fin 3) (i : S_.Idx) :
    indexContents ![b0, b1, b2] ⟨S_, .i32⟩ hT W k i = 0#32 := by
  match k with
  | 0 => exact h0 (hT 0) i
  | 1 => exact h1 (hT 1) i
  | 2 => exact h2 (hT 2) i

theorem V4_v3 (d : Dev nD) (y : S4x3x32768.Idx) : V4 m d (dr main_v3) y
    = if h : (y 2).val < 20480 then xOut (Am m d) (Bm m d) (narrow y h) else tcX (m (aLoc d)) (m (rLoc d)) y := by
  unfold V4
  simp (disch := decide) only [after_cons, after_nil, nullary_result_ne', binaryIndexed_result_ne']
  rw [binaryIndexed_result_read, updF_at]
  · simp (disch := decide) only [nullary_result_ne']
    rw [V3_arg m d main_v1_0 (by decide) (by decide)]
    have hx : V2 m d (dr main_v1_0) = xOut (Am m d) (Bm m d) :=
      (Function.update_of_ne (show dr main_v1_0 ≠ dr main_v1_1 by decide) _ _).trans (Function.update_self _ _ _)
    have ht : V3 m d (dr main_v2_0) = (dat (W2 m) d).arrAt 2 cfg1.N :=
      (Function.update_of_ne (show dr main_v2_0 ≠ dr main_v2_1 by decide) _ _).trans (Function.update_self _ _ _)
    rw [hx, ht]
    split
    · rfl
    · rename_i h
      rw [arr_2, if_pos (by omega)]
      show tcX (V2 m d (dr main_arg0)) (V2 m d (dr main_arg1)) y = _
      rw [V2_arg m d main_arg0 (by decide) (by decide) (by decide), V2_arg m d main_arg1 (by decide) (by decide) (by decide)]
  · intro k
    refine zeros_at _ _ _ _ _ ?_ ?_ ?_ k _ <;> intro h i <;> simp (disch := decide) only [nullary_result_ne', nullary_result', cast_eq] <;> rfl
theorem V4_v4 (d : Dev nD) (y : S4x3x32768.Idx) : V4 m d (dr main_v4) y
    = if h : (y 2).val < 20480 then iOut (Am m d) (Bm m d) (narrow y h) else tcI (m (aLoc d)) (m (rLoc d)) y := by
  unfold V4
  simp (disch := decide) only [after_cons, after_nil]
  rw [binaryIndexed_result_read, updF_at]
  · simp (disch := decide) only [nullary_result_ne', binaryIndexed_result_ne']
    rw [V3_arg m d main_v1_1 (by decide) (by decide)]
    have hx : V2 m d (dr main_v1_1) = iOut (Am m d) (Bm m d) := Function.update_self _ _ _
    have ht : V3 m d (dr main_v2_1) = (dat (W2 m) d).arrAt 3 cfg1.N := Function.update_self _ _ _
    rw [hx, ht]
    split
    · rfl
    · rename_i h
      rw [arr_3, if_pos (by omega)]
      show tcI (V2 m d (dr main_arg0)) (V2 m d (dr main_arg1)) y = _
      rw [V2_arg m d main_arg0 (by decide) (by decide) (by decide), V2_arg m d main_arg1 (by decide) (by decide) (by decide)]
  · intro k
    refine zeros_at _ _ _ _ _ ?_ ?_ ?_ k _ <;> intro h i <;> simp (disch := decide) only [nullary_result_ne', nullary_result', cast_eq] <;> rfl

/-! ## The frames -/

theorem uc_arg0 : dr main_arg0 ∈ ucRefs := by decide
theorem uc_arg1 : dr main_arg1 ∈ ucRefs := by decide
theorem uc_v3 : dr main_v3 ∈ ucRefs := by decide
theorem uc_v4 : dr main_v4 ∈ ucRefs := by decide

/-- The bodies of the program read at bits are those of the program the run is stated of: the two have one text, -/
theorem defs₀_eq : Cert.Kernel.defs₀ (F := Bits) = Cert.KernelIdeal.defs₀ (F := Bits) := by
  funext p ℓ a
  rcases p with _ | _ | ⟨c, s⟩
  · match ℓ, a with
    | 0, a => rfl
    | 1, a => rfl
  · match ℓ, a with
    | 0, a => rfl
    | 1, a => rfl
  · match ℓ, a with
    | 0, a => rfl
    | 1, a => rfl
/-- and so are the bodies around them. -/
theorem defs_eq : Cert.Kernel.defs (F := Bits) = Cert.KernelIdeal.defs (F := Bits) := by
  unfold Cert.Kernel.defs Cert.KernelIdeal.defs
  rw [defs₀_eq]; rfl

/-- The kernel read at bits runs, leaves its arguments and ends with every semaphore at zero. -/
theorem frame_kernel : Cert.quiescent_Kernel := fun m ρ _ => by
  rw [defs_eq]
  exact (θ_run Cert.KernelIdeal.defs _ _).mono (fun _ h => ⟨fun c => ⟨(h.1 c ⟨dr main_arg0, uc_arg0⟩).trans (V4_arg0 m c),
    (h.1 c ⟨dr main_arg1, uc_arg1⟩).trans (V4_arg1 m c)⟩, h.2⟩) (run_main (F := Bits) m ρ)
/-- The kernel read at the extended reals likewise. -/
theorem frame_kernelIdeal : Cert.quiescent_KernelIdeal := fun m ρ _ =>
  (θ_run Cert.KernelIdeal.defs _ _).mono (fun _ h => ⟨fun c => ⟨(h.1 c ⟨dr main_arg0, uc_arg0⟩).trans (V4_arg0 m c),
    (h.1 c ⟨dr main_arg1, uc_arg1⟩).trans (V4_arg1 m c)⟩, h.2⟩) (run_main (F := Ideal) m ρ)

end Cert.Proof.MaxIdx

end
-- ==== Proof.Values.lean ====
/-
  The results over the extended reals: at every index both programs hold the largest of the same thirty-two products and
  the first place it is at.
-/
module

public import proofs.«01_k».proof.Proof.RefValues
public import proofs.«01_k».proof.Proof.Results

@[expose] public section

noncomputable section

namespace Cert.Proof.MaxIdx

open Cert.KernelIdeal Cert.KernelIdeal.Gen

open Idealize.ShloMosaic
open Idealize.SL Idealize.SL.Sem

variable (A : S4x32768.Idx → Ideal .f32) (R : S4x3x32x32768.Idx → Ideal .f32)

/-! ## The SparseCore's columns -/

/-- The products the tiles take the maximum of. -/
theorem prods_eq (y : S4x3x32768.Idx) (n : ℕ) (hn : n < 32) :
    prods A (shapeCast S384x32768 R shapeCasts_S4x3x32x32768_S384x32768) (3 * (y 0).val + (y 1).val) (y 2).val n = pAt A R y n := by
  have h0 : (y 0).val < 4 := (y 0).isLt
  have h1 : (y 1).val < 3 := (y 1).isLt
  have h2 : (y 2).val < 32768 := (y 2).isLt
  unfold prods pAt
  have eA : fA A ((3 * (y 0).val + (y 1).val) / 3) (y 2).val = A (ixA y) :=
    (fA_eq A (ixA y) _ _ (show (y 0).val = _ by omega) rfl).symm
  have eB : fB (shapeCast S384x32768 R shapeCasts_S4x3x32x32768_S384x32768) (32 * (3 * (y 0).val + (y 1).val) + n) (y 2).val = R (ixR y n) := by
    refine shapeCast_apply R _ _ (ixR y n) ?_
    rw [Shape.rowMajor_val_four, Shape.rowMajor_val_two]
    show (((y 0).val * 3 + (y 1).val) * 32 + n % 32) * 32768 + (y 2).val
      = ((32 * (3 * (y 0).val + (y 1).val) + n) % 384) * 32768 + (y 2).val % 32768
    rw [Nat.mod_eq_of_lt h2, Nat.mod_eq_of_lt hn, Nat.mod_eq_of_lt (show 32 * (3 * (y 0).val + (y 1).val) + n < 384 by omega)]
    omega
  rw [eA, eB]

/-- Running pairs of sequences that agree below 32. -/
theorem runMax_congr {p q : ℕ → Ideal .f32} (n : ℕ) (h : ∀ k, k ≤ n → p k = q k) : runMax p n = runMax q n := by
  induction n with
  | zero => exact h 0 le_rfl
  | succ n ih => rw [runMax, runMax, ih fun k hk => h k (by omega), h (n + 1) le_rfl]
theorem runIdx_congr {p q : ℕ → Ideal .f32} (n : ℕ) (h : ∀ k, k ≤ n → p k = q k) : runIdx p n = runIdx q n := by
  induction n with
  | zero => rfl
  | succ n ih => rw [runIdx, runIdx, ih fun k hk => h k (by omega), h (n + 1) le_rfl, runMax_congr n fun k hk => h k (by omega)]

/-- The tiles' results at the result's index. -/
theorem xOut_eq (y : S4x3x32768.Idx) (h : (y 2).val < 20480) :
    xOut A (shapeCast S384x32768 R shapeCasts_S4x3x32x32768_S384x32768) (narrow y h) = runMax (pAt A R y) 31 :=
  runMax_congr 31 fun k hk => prods_eq A R y k (by omega)
theorem iOut_eq (y : S4x3x32768.Idx) (h : (y 2).val < 20480) :
    iOut A (shapeCast S384x32768 R shapeCasts_S4x3x32x32768_S384x32768) (narrow y h) = runIdx (pAt A R y) 31 :=
  runIdx_congr 31 fun k hk => prods_eq A R y k (by omega)

/-! ## The TensorCore's columns -/

/-- Row `b` of the block, selected by its number. -/
theorem mrow_eq (b : Fin 4) (X : FVec Ideal S4x2048 .f32) (z : S1x2048.Idx) (w : S4x2048.Idx) (hw0 : (w 0).val = b.val) (hw1 : (w 1).val = (z 1).val) :
    mrow (BitVec.ofNat 32 b.val) X z = X w := by
  have hz : (z 0).val = 0 := by have : (z 0).val < 1 := (z 0).isLt; omega
  have key : ∀ (o : ℕ) (h : S4x2048.Slices ![o, 0] S1x2048), o = b.val → extractStridedSlice S1x2048 ![o, 0] X h z = X w := fun o h ho =>
    extractStridedSlice_apply _ X h z w fun a => by
      match a with
      | 0 => show (w 0).val = o + (z 0).val; omega
      | 1 => show (w 1).val = 0 + (z 1).val; omega
  unfold mrow
  match b, key with
  | 0, key => exact key 0 slices_S4x2048_o0_0_S1x2048 rfl
  | 1, key => exact key 1 slices_S4x2048_o1_0_S1x2048 rfl
  | 2, key => exact key 2 slices_S4x2048_o2_0_S1x2048 rfl
  | 3, key => exact key 3 slices_S4x2048_o3_0_S1x2048 rfl

/-- The product matrix of the block body at row `n` of result index `y`'s column. -/
theorem tcP_eq (y : S4x3x32768.Idx) (z : S32x2048.Idx) (hz : (z 1).val = (y 2).val % 2048) :
    tcP (BitVec.ofNat 32 (y 0).val) (cutA A (colBlk y)) (slab (cutB R (y 0) (colBlk y)) (inBlk y 1)) z = pAt A R y (z 0).val := by
  have h2 : (y 2).val < 32768 := (y 2).isLt
  have hz0 : (z 0).val < 32 := (z 0).isLt
  have hz1 : (z 1).val < 2048 := (z 1).isLt
  let w1 : S1x2048.Idx := fun a => match a with
    | 0 => (0 : Fin 1)
    | 1 => z 1
  let w2 : S4x2048.Idx := fun a => match a with
    | 0 => y 0
    | 1 => z 1
  let w3 : S1x1x32x2048.Idx := fun a => match a with
    | 0 => (0 : Fin 1)
    | 1 => (0 : Fin 1)
    | 2 => z 0
    | 3 => z 1
  have eA : broadcastTo S32x2048 (mrow (BitVec.ofNat 32 (y 0).val) (cutA A (colBlk y))) broadcasts_S1x2048_S32x2048 z = A (ixA y) := by
    refine (broadcastTo_apply _ _ z w1 fun a => ?_).trans ((mrow_eq (y 0) (cutA A (colBlk y)) w1 w2 rfl rfl).trans ?_)
    · match a with
      | 0 => rfl
      | 1 => rfl
    · refine congrArg A (funext fun a => Fin.ext ?_)
      match a with
      | 0 => rfl
      | 1 => show 2048 * ((y 2).val / 2048) + (z 1).val = (y 2).val; omega
  have eR : shapeCast S32x2048 (slab (cutB R (y 0) (colBlk y)) (inBlk y 1)) shapeCasts_S1x1x32x2048_S32x2048 z = R (ixR y (z 0).val) := by
    refine (shapeCast_apply _ _ z w3 ?_).trans (congrArg R (funext fun a => Fin.ext ?_))
    · rw [Shape.rowMajor_val_four, Shape.rowMajor_val_two]
      show ((0 * 1 + 0) * 32 + (z 0).val) * 2048 + (z 1).val = (z 0).val * 2048 + (z 1).val
      omega
    · match a with
      | 0 => rfl
      | 1 => rfl
      | 2 => exact (Nat.mod_eq_of_lt hz0).symm
      | 3 => show 2048 * ((y 2).val / 2048) + (z 1).val = (y 2).val; omega
  exact congrArg₂ FloatOps.mulf eA eR

/-- The column of result index `y` in the product matrix, row `n`. -/
theorem lift_row (j : S2048.Idx) (n : Fin 32) : (reduces_S32x2048_S2048.lift j n 0).val = n.val := rfl
theorem lift_col (j : S2048.Idx) (n : Fin 32) : (reduces_S32x2048_S2048.lift j n 1).val = (j 0).val := rfl

/-- The maximum down a column of the product matrix. -/
theorem tcMax_at (P : FVec Ideal S32x2048 .f32) (j : S2048.Idx) {p : ℕ → Ideal .f32} {v : Ideal .f32} {k : ℕ} (h : First p v k)
    (hP : ∀ n : Fin 32, P (reduces_S32x2048_S2048.lift j n) = p n.val) : tcMax P j = v := by
  unfold tcMax
  refine (Ideal.multiReduction_maximumf_single P _ _ _ _ j).trans ?_
  rw [botf, ← h.fold_max]
  exact Finset.fold_congr fun n _ => hP n

/-- The first place of the maximum down a column of the product matrix. -/
theorem tcIdx_at (P : FVec Ideal S32x2048 .f32) (j : S2048.Idx) {p : ℕ → Ideal .f32} {v : Ideal .f32} {k : ℕ} (h : First p v k)
    (hP : ∀ n : Fin 32, P (reduces_S32x2048_S2048.lift j n) = p n.val) : tcIdx P j = BitVec.ofNat 32 k := by
  have hv := tcMax_at P j h hP
  unfold tcIdx
  refine (multiReductionI_eq_fold .minsi _ _ _ _ j).trans ((Shape.Reduces.fold_filter_drop_single _ IKind.minsi.op _ _ j).trans ?_)
  refine h.fold_min _ fun n => ?_
  generalize hz : reduces_S32x2048_S2048.lift j n = z
  have hz0 : (z 0).val = n.val := hz ▸ lift_row j n
  have hz1 : (z 1).val = (j 0).val := hz ▸ lift_col j n
  let w1 : S1x2048.Idx := fun a => match a with
    | 0 => (0 : Fin 1)
    | 1 => z 1
  have e1 : broadcastTo S32x2048 (shapeCast S1x2048 (tcMax P) shapeCasts_S2048_S1x2048) broadcasts_S1x2048_S32x2048 z = v := by
    refine (broadcastTo_apply _ _ z w1 fun a => ?_).trans ((shapeCast_apply _ _ w1 j ?_).trans hv)
    · match a with
      | 0 => rfl
      | 1 => rfl
    · rw [Shape.rowMajor_val_one, Shape.rowMajor_val_two]
      show (j 0).val = 0 * 2048 + (z 1).val
      omega
  have e2 : P z = p n.val := hz ▸ hP n
  show (if FloatOps.cmpf .oeq (P (reduces_S32x2048_S2048.lift j n)) (broadcastTo S32x2048 _ _ (reduces_S32x2048_S2048.lift j n)) = 1#1
    then iota .tc S32x2048 32 [0] iota_S32x2048_d0_w32 (reduces_S32x2048_S2048.lift j n) else 32#32) = _
  rw [hz, e1, e2, iota_single_apply, hz0]
  exact if_congr (oeq_iff _ _) rfl rfl

variable {A R} in
/-- The products down the column of result index `y`. -/
theorem tcP_lift (y : S4x3x32768.Idx) (n : Fin 32) :
    tcP (BitVec.ofNat 32 (y 0).val) (cutA A (colBlk y)) (slab (cutB R (y 0) (colBlk y)) (inBlk y 1)) (reduces_S32x2048_S2048.lift (row2048 (inBlk y)) n)
      = pAt A R y n.val :=
  (tcP_eq A R y _ (lift_col (row2048 (inBlk y)) n)).trans (congrArg (pAt A R y) (lift_row (row2048 (inBlk y)) n))

variable {A R} in
/-- The block body's maximum and its place. -/
theorem tcX_eq (y : S4x3x32768.Idx) {v : Ideal .f32} {k : ℕ} (h : First (pAt A R y) v k) : tcX A R y = v := by
  unfold tcX outX
  exact tcMax_at _ _ h (tcP_lift y)
variable {A R} in
theorem tcI_eq (y : S4x3x32768.Idx) {v : Ideal .f32} {k : ℕ} (h : First (pAt A R y) v k) : tcI A R y = BitVec.ofNat 32 k := by
  unfold tcI outI
  exact tcIdx_at _ _ h (tcP_lift y)

/-! ## The kernel's results -/

variable (m : (ℓ : Loc nD τ sig) → Buf (Elt Ideal) ℓ)

/-- The kernel's two results at index `y`: the largest product and the first place it is at. -/
theorem kernel_at (d : Dev nD) (y : S4x3x32768.Idx) : ∃ k, First (pAt (m (aLoc d)) (m (rLoc d)) y) (V4 m d (dr main_v3) y) k
    ∧ V4 m d (dr main_v4) y = BitVec.ofNat 32 k := by
  obtain ⟨k, hk, hi⟩ := first_run (pAt (m (aLoc d)) (m (rLoc d)) y)
  refine ⟨k, ?_, ?_⟩
  · rw [V4_v3]
    by_cases h : (y 2).val < 20480
    · rw [dif_pos h]; exact (xOut_eq (m (aLoc d)) (m (rLoc d)) y h).symm ▸ hk
    · rw [dif_neg h]; exact (tcX_eq y hk).symm ▸ hk
  · rw [V4_v4]
    by_cases h : (y 2).val < 20480
    · rw [dif_pos h]; exact (iOut_eq (m (aLoc d)) (m (rLoc d)) y h).trans hi
    · rw [dif_neg h]; exact tcI_eq y hk

/-! ## The equality -/

/-- The reference's results, of arguments equal to the kernel's, are the kernel's. -/
theorem refX_kernel (d : Dev nD) : Ref.refX (F := Ideal) (m (aLoc d)) (m (rLoc d)) = V4 m d (dr main_v3) :=
  funext fun y => by
    obtain ⟨k, hk, -⟩ := kernel_at m d y
    exact refX_eq y hk
theorem refI_kernel (d : Dev nD) : Ref.refI (F := Ideal) (m (aLoc d)) (m (rLoc d)) = V4 m d (dr main_v4) :=
  funext fun y => by
    obtain ⟨k, hk, hi⟩ := kernel_at m d y
    exact (refI_eq y hk).trans hi.symm

end Cert.Proof.MaxIdx

end
-- ==== Proof.lean ====
/-
  The proof of the five claims: the three frames, the idealization (no operation rewritten), and the equality of the
  kernel's and the reference's two results over the extended reals.
-/
module

public import proofs.«01_k».proof.Defs
public import proofs.«01_k».proof.Proof.Values

@[expose] public section

noncomputable section

namespace Cert.Proof

open Idealize.ShloMosaic Idealize.SL.Sem
open Cert.Proof.MaxIdx

/-- Over the extended reals the kernel and the reference, of the same arguments, end with the same two results: the
    largest product at every index, and the first place it is at. Both leave their arguments as they were. -/
theorem algebraic : Cert.algebraic_KernelIdeal_ReferenceIdeal := by
  intro m ρ m' ρ' _ hagree
  refine ⟨fun c => V4 m c (dr Cert.KernelIdeal.main_v3), fun c => V4 m c (dr Cert.KernelIdeal.main_v4), ?_, ?_⟩
  · exact (θ_run Cert.KernelIdeal.defs _ _).mono (fun _ h c => ⟨h.1 c ⟨dr Cert.KernelIdeal.main_v3, uc_v3⟩, h.1 c ⟨dr Cert.KernelIdeal.main_v4, uc_v4⟩,
      (h.1 c ⟨dr Cert.KernelIdeal.main_arg0, uc_arg0⟩).trans (V4_arg0 m c), (h.1 c ⟨dr Cert.KernelIdeal.main_arg1, uc_arg1⟩).trans (V4_arg1 m c)⟩)
      (run_main (F := Ideal) m ρ)
  · refine (θ_run Cert.ReferenceIdeal.defs _ _).mono (fun r h c => ⟨?_, ?_, (h c Cert.ReferenceIdeal.main_arg0).trans (Ref.after_arg0 _),
      (h c Cert.ReferenceIdeal.main_arg1).trans (Ref.after_arg1 _)⟩) (Ref.run_main (F := Ideal) m' ρ')
    · exact (h c Cert.ReferenceIdeal.main_v3).trans ((Ref.after_v3 _).trans
        ((congrArg₂ (Ref.refX (F := Ideal)) (hagree c).1 (hagree c).2).trans (refX_kernel m c)))
    · exact (h c Cert.ReferenceIdeal.main_v4).trans ((Ref.after_v4 _).trans
        ((congrArg₂ (Ref.refI (F := Ideal)) (hagree c).1 (hagree c).2).trans (refI_kernel m c)))

/-- The five claims. -/
theorem claim : Cert.Claim :=
  ⟨Cert.Kernel.Gen.facts, Cert.KernelIdeal.Gen.facts, Cert.ReferenceIdeal.Gen.facts,
    frame_kernel, frame_kernelIdeal, Ref.frame, trivial, algebraic⟩

end Cert.Proof

end
